-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S512x1024 : Shape := ⟨2, ![512, 1024]⟩
abbrev S3x4096x512 : Shape := ⟨3, ![3, 4096, 512]⟩
abbrev S8x512x1024 : Shape := ⟨3, ![8, 512, 1024]⟩
abbrev S8x8x128 : Shape := ⟨3, ![8, 8, 128]⟩
abbrev S_ : Shape := ⟨0, ![]⟩
abbrev S3 : Shape := ⟨1, ![3]⟩
abbrev S8 : Shape := ⟨1, ![8]⟩
abbrev S1 : Shape := ⟨1, ![1]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S1x1x1 : Shape := ⟨3, ![1, 1, 1]⟩
abbrev S1x512x1024 : Shape := ⟨3, ![1, 512, 1024]⟩
abbrev S8x128 : Shape := ⟨2, ![8, 128]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .bf16⟩
  | .local _ .vmem, ⟨0, _⟩ => ⟨S4096x1024, .bf16⟩
  | .local _ .vmem, ⟨1, _⟩ => ⟨S512x1024, .f32⟩
  | .local _ .vmem, ⟨2, _⟩ => ⟨S512x4096, .bf16⟩
  | .local _ .vmem, ⟨3, _⟩ => ⟨S3x4096x512, .f32⟩
  | .local _ .vmem, ⟨4, _⟩ => ⟨S8x512x1024, .bf16⟩
  | .local _ .vmem, ⟨5, _⟩ => ⟨S8x512x1024, .bf16⟩
  | .local _ .vmem, ⟨6, _⟩ => ⟨S8x8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_29 : BitVec 32) (c0_i32_31 : BitVec 32) : Fin 2 → Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c1024_i32 : BitVec 32 := 1024#32
  let v34 : BitVec 32 := Scalar.muli v33 c1024_i32
  let v35 : BitVec 32 := Scalar.addi v34 c0_i32_31
  ![0, v35.toNat]
def k0_off2 (d0 : Dev nD) (c1_i32_94 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v101 : BitVec 32 := Scalar.addi v2 c1_i32_94
  let c8_i32_95 : BitVec 32 := 8#32
  let v102 : BitVec 32 := Scalar.remsi v101 c8_i32_95
  let v104 : Index := Scalar.indexCast v102
  let c0_96 : Index := 0#32
  let c0_97 : Index := 0#32
  ![v104.toNat, 0, 0]
def k0_off3 (d0 : Dev nD) (c1_i32_123 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v137 : BitVec 32 := Scalar.addi v2 c1_i32_123
  let c8_i32_124 : BitVec 32 := 8#32
  let v138 : BitVec 32 := Scalar.remsi v137 c8_i32_124
  let v140 : Index := Scalar.indexCast v138
  let c0_125 : Index := 0#32
  let c512 : Index := 512#32
  ![v140.toNat, 0, 512]
def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_130 : BitVec 32 := 0#32
  let c0_i32_131 : BitVec 32 := 0#32
  ![v2.toNat, 0, 0]
def k0_off6 (d0 : Dev nD) (c1_i32_123 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v137 : BitVec 32 := Scalar.addi v2 c1_i32_123
  let c8_i32_124 : BitVec 32 := 8#32
  let v138 : BitVec 32 := Scalar.remsi v137 c8_i32_124
  let c0_i32_132 : BitVec 32 := 0#32
  let c0_i32_133 : BitVec 32 := 0#32
  ![v138.toNat, 0, 0]
def k0_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_123 : BitVec 32 := 1#32
  let v137 : BitVec 32 := Scalar.addi v2 c1_i32_123
  let c8_i32_124 : BitVec 32 := 8#32
  let v138 : BitVec 32 := Scalar.remsi v137 c8_i32_124
  let c1_i32_128 : BitVec 32 := 1#32
  let v150 : BitVec 32 := Scalar.muli v138 c1_i32_128
  let v151 : BitVec 32 := Scalar.addi c0_i32_129 v150
  v151.toNat
def k0_dev9 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_186 : BitVec 32 := 2#32
  let v219 : BitVec 32 := Scalar.addi v2 c2_i32_186
  let c8_i32_187 : BitVec 32 := 8#32
  let v220 : BitVec 32 := Scalar.remsi v219 c8_i32_187
  let c1_i32_192 : BitVec 32 := 1#32
  let v232 : BitVec 32 := Scalar.muli v220 c1_i32_192
  let v233 : BitVec 32 := Scalar.addi c0_i32_193 v232
  v233.toNat
def k0_dev10 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_251 : BitVec 32 := 3#32
  let v301 : BitVec 32 := Scalar.addi v2 c3_i32_251
  let c8_i32_252 : BitVec 32 := 8#32
  let v302 : BitVec 32 := Scalar.remsi v301 c8_i32_252
  let c1_i32_257 : BitVec 32 := 1#32
  let v314 : BitVec 32 := Scalar.muli v302 c1_i32_257
  let v315 : BitVec 32 := Scalar.addi c0_i32_258 v314
  v315.toNat
def k0_dev11 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_316 : BitVec 32 := 4#32
  let v383 : BitVec 32 := Scalar.addi v2 c4_i32_316
  let c8_i32_317 : BitVec 32 := 8#32
  let v384 : BitVec 32 := Scalar.remsi v383 c8_i32_317
  let c1_i32_322 : BitVec 32 := 1#32
  let v396 : BitVec 32 := Scalar.muli v384 c1_i32_322
  let v397 : BitVec 32 := Scalar.addi c0_i32_323 v396
  v397.toNat
def k0_dev12 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_381 : BitVec 32 := 5#32
  let v465 : BitVec 32 := Scalar.addi v2 c5_i32_381
  let c8_i32_382 : BitVec 32 := 8#32
  let v466 : BitVec 32 := Scalar.remsi v465 c8_i32_382
  let c1_i32_387 : BitVec 32 := 1#32
  let v478 : BitVec 32 := Scalar.muli v466 c1_i32_387
  let v479 : BitVec 32 := Scalar.addi c0_i32_388 v478
  v479.toNat
def k0_dev13 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_446 : BitVec 32 := 6#32
  let v547 : BitVec 32 := Scalar.addi v2 c6_i32_446
  let c8_i32_447 : BitVec 32 := 8#32
  let v548 : BitVec 32 := Scalar.remsi v547 c8_i32_447
  let c1_i32_452 : BitVec 32 := 1#32
  let v560 : BitVec 32 := Scalar.muli v548 c1_i32_452
  let v561 : BitVec 32 := Scalar.addi c0_i32_453 v560
  v561.toNat
def k0_dev14 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_511 : BitVec 32 := 7#32
  let v629 : BitVec 32 := Scalar.addi v2 c7_i32_511
  let c8_i32_512 : BitVec 32 := 8#32
  let v630 : BitVec 32 := Scalar.remsi v629 c8_i32_512
  let c1_i32_517 : BitVec 32 := 1#32
  let v642 : BitVec 32 := Scalar.muli v630 c1_i32_517
  let v643 : BitVec 32 := Scalar.addi c0_i32_518 v642
  v643.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v711 : Index := Scalar.indexCast v2
  let c0_567 : Index := 0#32
  let c0_568 : Index := 0#32
  ![v711.toNat, 0, 0]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_574 : BitVec 32 := 0#32
  let c0_i32_575 : BitVec 32 := 0#32
  ![v2.toNat, 0, 0]
def k0_dev15 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_569 : BitVec 32 := 1#32
  let v715 : BitVec 32 := Scalar.addi v2 c1_i32_569
  let c8_i32_570 : BitVec 32 := 8#32
  let v716 : BitVec 32 := Scalar.remsi v715 c8_i32_570
  let c1_i32_572 : BitVec 32 := 1#32
  let v717 : BitVec 32 := Scalar.muli v716 c1_i32_572
  let v718 : BitVec 32 := Scalar.addi c0_i32_573 v717
  v718.toNat
def k0_dev16 (d0 : Dev nD) : Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_578 : BitVec 32 := 2#32
  let v727 : BitVec 32 := Scalar.addi v2 c2_i32_578
  let c8_i32_579 : BitVec 32 := 8#32
  let v728 : BitVec 32 := Scalar.remsi v727 c8_i32_579
  let c1_i32_581 : BitVec 32 := 1#32
  let v729 : BitVec 32 := Scalar.muli v728 c1_i32_581
  let v730 : BitVec 32 := Scalar.addi c0_i32_582 v729
  v730.toNat
def k0_dev17 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_587 : BitVec 32 := 3#32
  let v739 : BitVec 32 := Scalar.addi v2 c3_i32_587
  let c8_i32_588 : BitVec 32 := 8#32
  let v740 : BitVec 32 := Scalar.remsi v739 c8_i32_588
  let c1_i32_590 : BitVec 32 := 1#32
  let v741 : BitVec 32 := Scalar.muli v740 c1_i32_590
  let v742 : BitVec 32 := Scalar.addi c0_i32_591 v741
  v742.toNat
def k0_dev18 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_596 : BitVec 32 := 4#32
  let v751 : BitVec 32 := Scalar.addi v2 c4_i32_596
  let c8_i32_597 : BitVec 32 := 8#32
  let v752 : BitVec 32 := Scalar.remsi v751 c8_i32_597
  let c1_i32_599 : BitVec 32 := 1#32
  let v753 : BitVec 32 := Scalar.muli v752 c1_i32_599
  let v754 : BitVec 32 := Scalar.addi c0_i32_600 v753
  v754.toNat
def k0_dev19 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_605 : BitVec 32 := 5#32
  let v763 : BitVec 32 := Scalar.addi v2 c5_i32_605
  let c8_i32_606 : BitVec 32 := 8#32
  let v764 : BitVec 32 := Scalar.remsi v763 c8_i32_606
  let c1_i32_608 : BitVec 32 := 1#32
  let v765 : BitVec 32 := Scalar.muli v764 c1_i32_608
  let v766 : BitVec 32 := Scalar.addi c0_i32_609 v765
  v766.toNat
def k0_dev20 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_614 : BitVec 32 := 6#32
  let v775 : BitVec 32 := Scalar.addi v2 c6_i32_614
  let c8_i32_615 : BitVec 32 := 8#32
  let v776 : BitVec 32 := Scalar.remsi v775 c8_i32_615
  let c1_i32_617 : BitVec 32 := 1#32
  let v777 : BitVec 32 := Scalar.muli v776 c1_i32_617
  let v778 : BitVec 32 := Scalar.addi c0_i32_618 v777
  v778.toNat
def k0_dev21 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_623 : BitVec 32 := 7#32
  let v787 : BitVec 32 := Scalar.addi v2 c7_i32_623
  let c8_i32_624 : BitVec 32 := 8#32
  let v788 : BitVec 32 := Scalar.remsi v787 c8_i32_624
  let c1_i32_626 : BitVec 32 := 1#32
  let v789 : BitVec 32 := Scalar.muli v788 c1_i32_626
  let v790 : BitVec 32 := Scalar.addi c0_i32_627 v789
  v790.toNat
def k0_off9 (d0 : Dev nD) (c1_i32_632 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v799 : BitVec 32 := Scalar.addi v2 c1_i32_632
  let c8_i32_633 : BitVec 32 := 8#32
  let v800 : BitVec 32 := Scalar.remsi v799 c8_i32_633
  ![v800.toNat]
def k0_off10 (d0 : Dev nD) (c1_i32_632 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v799 : BitVec 32 := Scalar.addi v2 c1_i32_632
  let c8_i32_633 : BitVec 32 := 8#32
  let v800 : BitVec 32 := Scalar.remsi v799 c8_i32_633
  let c0_i32_637 : BitVec 32 := 0#32
  let c0_i32_638 : BitVec 32 := 0#32
  ![v800.toNat, 0, 0]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v924 : Index := Scalar.indexCast v2
  let c0_747 : Index := 0#32
  let c0_748 : Index := 0#32
  ![v924.toNat, 0, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_751 : BitVec 32 := 512#32
  let v938 : BitVec 32 := Scalar.muli v2 c512_i32_751
  let v939 : Index := Scalar.indexCast v938
  let c0_752 : Index := 0#32
  ![v939.toNat, 0]
def k0_off13 (d0 : Dev nD) (c1_i32_753 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v941 : BitVec 32 := Scalar.addi v2 c1_i32_753
  let c8_i32_754 : BitVec 32 := 8#32
  let v942 : BitVec 32 := Scalar.remsi v941 c8_i32_754
  let v951 : Index := Scalar.indexCast v942
  let c0_763 : Index := 0#32
  let c0_764 : Index := 0#32
  ![v951.toNat, 0, 0]
def k0_off14 (d0 : Dev nD) (c1_i32_753 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v941 : BitVec 32 := Scalar.addi v2 c1_i32_753
  let c8_i32_754 : BitVec 32 := 8#32
  let v942 : BitVec 32 := Scalar.remsi v941 c8_i32_754
  let c512_i32_767 : BitVec 32 := 512#32
  let v965 : BitVec 32 := Scalar.muli v942 c512_i32_767
  let v966 : Index := Scalar.indexCast v965
  let c0_768 : Index := 0#32
  ![v966.toNat, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.Base.lean ====
/-
The vocabulary of the proof: the devices by their distance round the mesh, the kernel's semaphores, the pieces of its
buffers, and the contents each piece holds once the kernel has written it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Writes
public import Idealize.ShloMosaic.Lib.Ring
public import Idealize.ShloMosaic.Lib.ValueIdxCore
public import Idealize.ShloMosaic.Lib.Tactic

@[expose] public section

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the pipeline's rounds, this protocol's rounds, the local transfers' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds: the left half of the right factor. -/
def EB : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance EB_landsIn : (EB : Emb UB 𝕄).LandsIn (upEmb : UEmb _ 𝕄) := by unfold EB; infer_instance

/-- The local transfers' counters: the right half of the right factor. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices by distance -/

set_option backward.proofsInPublic true in
/-- The device `k` places after `c`. -/
def rot (c : Dev nD) (k : ℕ) : Dev nD := ⟨(c.val + k) % 8, Nat.mod_lt _ (by decide)⟩

theorem rot_val (c : Dev nD) (k : ℕ) : (rot c k).val = (c.val + k) % 8 := rfl
theorem rot_rot (c : Dev nD) (a b : ℕ) : rot (rot c a) b = rot c (a + b) :=
  Fin.ext (by rw [rot_val, rot_val, rot_val]; omega)
theorem rot_eight (c : Dev nD) : rot c 8 = c := Fin.ext (by rw [rot_val]; have : c.val < 8 := c.isLt; omega)
theorem rot_ne (c : Dev nD) (r : Fin 7) : rot c (r.val + 1) ≠ c := fun h => by
  have h' := congrArg Fin.val h
  rw [rot_val] at h'
  have : c.val < 8 := c.isLt
  have : r.val < 7 := r.isLt
  omega

/-- The place from which the device at distance `r + 1` sees this one. -/
def back (r : Fin 7) : Fin 7 := ⟨6 - r.val, by omega⟩
theorem rot_back (c : Dev nD) (r : Fin 7) : rot (rot c (r.val + 1)) ((back r).val + 1) = c := by
  rw [rot_rot, show r.val + 1 + ((back r).val + 1) = 8 by unfold back; have := r.isLt; dsimp only; omega, rot_eight]
theorem back_back (r : Fin 7) : back (back r) = r := by revert r; decide

/-! ## The semaphores -/

/-- The runtime's barrier semaphore. -/
abbrev barS : Sem sig := (SemArray.scalar (sig.barrier 0 rfl) : Sems sig S_).sem

set_option backward.proofsInPublic true in
/-- The eight semaphores of each of the four arrays of the remote copies: 0 the maxima's send array, 1 their receive
    array, 2 the blocks' send array, 3 their receive array. -/
def dsem (a : Fin 4) (s : Fin 8) : DmaSem sig := ⟨6 + 8 * a.val + s.val, by have := a.isLt; have := s.isLt; show _ < 38; omega⟩

abbrev barCell (c : Dev nD) : GSem nD τ sig := ((c : Thread nD τ), .reg barS)
abbrev cell (c : Dev nD) (a : Fin 4) (s : Fin 8) : GSem nD τ sig := ((c : Thread nD τ), .dma (dsem a s))

theorem dsem_inj {a a' : Fin 4} {s s' : Fin 8} (h : dsem a s = dsem a' s') : a = a' ∧ s = s' := by
  have h' : 6 + 8 * a.val + s.val = 6 + 8 * a'.val + s'.val := congrArg Fin.val h
  have := a.isLt; have := a'.isLt; have := s.isLt; have := s'.isLt
  exact ⟨Fin.ext (by omega), Fin.ext (by omega)⟩

theorem sem9 (off : Fin 1 → ℕ) (s : Fin 8) (h : off = ![s.val]) (inb) (q) :
    ((cc0_scratch9.slice (Rect.unit (s := S8) off S1.size inb)).squeeze S_ q).sem = dsem 0 s := by
  subst h; revert s; decide
theorem sem10 (off : Fin 1 → ℕ) (s : Fin 8) (h : off = ![s.val]) (inb) (q) :
    ((cc0_scratch10.slice (Rect.unit (s := S8) off S1.size inb)).squeeze S_ q).sem = dsem 1 s := by
  subst h; revert s; decide
theorem sem11 (off : Fin 1 → ℕ) (s : Fin 8) (h : off = ![s.val]) (inb) (q) :
    ((cc0_scratch11.slice (Rect.unit (s := S8) off S1.size inb)).squeeze S_ q).sem = dsem 2 s := by
  subst h; revert s; decide
theorem sem12 (off : Fin 1 → ℕ) (s : Fin 8) (h : off = ![s.val]) (inb) (q) :
    ((cc0_scratch12.slice (Rect.unit (s := S8) off S1.size inb)).squeeze S_ q).sem = dsem 3 s := by
  subst h; revert s; decide

/-! ## Pieces of the buffers -/

/-- Row block `s` of the two block buffers. -/
def slot (s : ℕ) : Finset S8x512x1024.Idx := Finset.univ.filter fun i => (i 0).val = s
/-- Column half `h` of row block `s`. -/
def half (s h : ℕ) : Finset S8x512x1024.Idx := Finset.univ.filter fun i => (i 0).val = s ∧ (i 2).val / 512 = h
/-- Row block `s` of the buffer of maxima. -/
def mslot (s : ℕ) : Finset S8x8x128.Idx := Finset.univ.filter fun i => (i 0).val = s
/-- Slot `s` of the weight buffer. -/
def wslot (s : ℕ) : Finset S3x4096x512.Idx := Finset.univ.filter fun i => (i 0).val = s
/-- Column block `j` of the narrowed operand. -/
def xcol (j : ℕ) : Finset S512x4096.Idx := Finset.univ.filter fun i => (i 1).val / 1024 = j
/-- Row block `s` of the result. -/
def orow (s : ℕ) : Finset S4096x1024.Idx := Finset.univ.filter fun i => (i 0).val / 512 = s

/-! ## Contents -/

/-- Device `c`'s rows of the left operand, at launch. -/
abbrev X (c : Dev nD) : FVec F S512x4096 .f32 := m ((c : Thread nD τ).loc main_arg0)
/-- Device `c`'s right operand, at launch. -/
abbrev Wt (c : Dev nD) : FVec F S4096x8192 .f32 := m ((c : Thread nD τ).loc main_arg1)

set_option backward.proofsInPublic true in
/-- Column block `j` of the left operand. -/
def Xcol (c : Dev nD) (j : Fin 4) : FVec F S512x1024 .f32 := fun y =>
  X m c (ix2 (n0 := 512) (n1 := 4096) (y 0) ⟨1024 * j.val + (y 1).val, by
    have h : (y 1).val < 1024 := (y 1).isLt; have := j.isLt; omega⟩)

set_option backward.proofsInPublic true in
/-- The left operand narrowed, column block by column block. -/
def XB (c : Dev nD) : FVec F S512x4096 .bf16 := fun i =>
  k0_pay1 (Xcol m c ⟨(i 1).val / 1024, by have h : (i 1).val < 4096 := (i 1).isLt; omega⟩)
    (ix2 (n0 := 512) (n1 := 1024) (i 0) ⟨(i 1).val % 1024, Nat.mod_lt _ (by decide)⟩)

set_option backward.proofsInPublic true in
/-- Column half `h` of the weights' column block `s`. -/
def Wc (c : Dev nD) (s : Dev nD) (h : Fin 2) : FVec F S1x4096x512 .f32 := fun y =>
  Wt m c (ix2 (n0 := 4096) (n1 := 8192) (y 1) ⟨1024 * s.val + 512 * h.val + (y 2).val, by
    have h2 : (y 2).val < 512 := (y 2).isLt; have := h.isLt; have h8 : s.val < 8 := s.isLt; omega⟩)

set_option backward.proofsInPublic true in
/-- The blocks of the product, narrowed: row block `s` is the product with the weights' column block `s`. -/
def YB (c : Dev nD) : FVec F S8x512x1024 .bf16 := fun i =>
  k0_pay9 (XB m c) (Wc m c (i 0) ⟨(i 2).val / 512, by have h : (i 2).val < 1024 := (i 2).isLt; omega⟩)
    (ix3 (n0 := 1) (n1 := 512) (n2 := 512) 0 (i 1) ⟨(i 2).val % 512, Nat.mod_lt _ (by decide)⟩)

/-- What arrives: row block `s` is device `s`'s block for this device. -/
def YBR (c : Dev nD) : FVec F S8x512x1024 .bf16 := fun i => YB m (i 0) (ix3 (n0 := 8) (n1 := 512) (n2 := 1024) c (i 1) (i 2))

set_option backward.proofsInPublic true in
/-- Chunk `j`: its weights. -/
def Wj (c : Dev nD) (j : ℕ) : FVec F S1x4096x512 .f32 := Wc m c (rot c (j / 2 + 1)) ⟨j % 2, Nat.mod_lt _ (by decide)⟩

/-- The largest magnitude of the products up to chunk `j`. -/
def mx (c : Dev nD) : ℕ → F .f32
  | 0 => k0_pay7 (k0_pay8 (XB m c) (Wj m c 0))
  | j + 1 => k0_pay10 (mx c j) (XB m c) (Wj m c (j + 1))

/-- The maxima of all devices, as the buffer of maxima ends up. -/
def AM : FVec F S8x8x128 .f32 := fun i => mx m (i 0) 15

set_option backward.proofsInPublic true in
/-- The result on device `c`. -/
def OUT (c : Dev nD) : FVec F S4096x1024 .bf16 := fun i =>
  k0_pay63 (k0_pay59 (AM m)) (k0_pay60 (AM m))
    (fun y => YBR m c (ix3 (n0 := 8) (n1 := 512) (n2 := 1024) ⟨(i 0).val / 512, by have h : (i 0).val < 4096 := (i 0).isLt; omega⟩ (y 1) (y 2)))
    (ix2 (n0 := 512) (n1 := 1024) ⟨(i 0).val % 512, Nat.mod_lt _ (by decide)⟩ (i 1))

/-! ## Going through seven (or so) like steps -/

section Stage
variable {n : ℕ}

/-- `n` like resources of which the first `i` have been turned from `A` into `B`. -/
def stage (A B : Fin n → sProp 𝕄) (i : ℕ) : sProp 𝕄 := bigSep Finset.univ fun r : Fin n => if r.val < i then B r else A r

omit [FloatOps F] in
theorem stage_zero (A B : Fin n → sProp 𝕄) : bigSep Finset.univ A ⊢ stage A B 0 :=
  Entails.of_eq (BI.bigSep_congr fun r _ => by rw [if_neg (Nat.not_lt_zero _)])
omit [FloatOps F] in
theorem stage_full (A B : Fin n → sProp 𝕄) : stage A B n ⊢ bigSep Finset.univ B :=
  Entails.of_eq (BI.bigSep_congr fun r _ => by rw [if_pos r.isLt])
omit [FloatOps F] in
/-- One member out of a family. -/
theorem out {I : Type} [DecidableEq I] {s : Finset I} {i : I} (hi : i ∈ s) {Φ : I → sProp 𝕄} :
    bigSep s Φ = iprop(Φ i ∗ bigSep (s.erase i) Φ) := BI.bigSep_erase hi

omit [FloatOps F] in
/-- The next step: one `A` is taken, and the `B` it turns into is given back. -/
theorem stage_step (A B : Fin n → sProp 𝕄) (r : Fin n) : stage A B r.val ⊢ iprop(A r ∗ (B r -∗ stage A B (r.val + 1))) := by
  unfold stage
  rw [out (Finset.mem_univ r), out (i := r) (Φ := fun r' : Fin n => if r'.val < r.val + 1 then B r' else A r') (Finset.mem_univ r)]
  rw [if_neg (Nat.lt_irrefl _), if_pos (Nat.lt_succ_self _)]
  rw [BI.bigSep_congr (Ψ := fun r' : Fin n => if r'.val < r.val + 1 then B r' else A r') (fun r' hr => by
    have hne : r'.val ≠ r.val := fun h => (Finset.mem_erase.mp hr).1 (Fin.ext h)
    by_cases h : r'.val < r.val
    · rw [if_pos h, if_pos (by omega)]
    · rw [if_neg h, if_neg (by omega)])]
  iintro ⟨H1, H2⟩
  isplitl [H1]; · iexact H1
  iintro H
  isplitl [H] <;> iassumption

end Stage

end Cert.Qdq
end
-- ==== Proof.Views.lean ====
/-
What the kernel's loads, stores and copies touch and read: each of its rectangles as one of the named pieces, and each
read at an element.
-/
module

public import proofs.«01_k».proof.Proof.Base

@[expose] public section

set_option maxRecDepth 16384

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev xM : Memref sig .tc .hbm S512x4096 .f32 := Memref.whole main_arg0
abbrev wM : Memref sig .tc .hbm S4096x8192 .f32 := Memref.whole main_arg1
abbrev oM : Memref sig .tc .vmem S4096x1024 .bf16 := Memref.whole cc0_stg0_0
abbrev xsM : Memref sig .tc .vmem S512x1024 .f32 := Memref.whole cc0_scratch0
abbrev xbM : Memref sig .tc .vmem S512x4096 .bf16 := Memref.whole cc0_scratch1
abbrev wbM : Memref sig .tc .vmem S3x4096x512 .f32 := Memref.whole cc0_scratch2
abbrev ybM : Memref sig .tc .vmem S8x512x1024 .bf16 := Memref.whole cc0_scratch3
abbrev ybrM : Memref sig .tc .vmem S8x512x1024 .bf16 := Memref.whole cc0_scratch4
abbrev amM : Memref sig .tc .vmem S8x8x128 .f32 := Memref.whole cc0_scratch5

omit [FloatOps F] in
/-- A whole write through a view leaves on the view's elements any contents that read back what was written. -/
theorem pts_write {c : Thread nD τ} {sp : Space} {s : Shape} {e : EltTy} (v : View sig c.2.kind sp s e)
    (q : PosShare TreeShare) (fd G : Buf (Elt F) (v.loc c)) (w : s.Idx → Elt F e) (h : ∀ x, w x = v.read (Elt F) G x) :
    (v.loc c ↦[v.set]{q} v.write (Elt F) fd w Finset.univ : sProp 𝕄) = v.loc c ↦[v.set]{q} G := by
  rw [show w = v.read (Elt F) G from funext h]
  exact pointsTo_congr fun i hi => by
    rw [View.write_read_eq_piecewise, View.setOn_univ, Finset.piecewise_eq_of_mem _ _ _ hi]

/-! ## Rectangles -/

theorem rect_slot (s : ℕ) (off : Fin 3 → ℕ) (h : off = ![s, 0, 0]) (inb) :
    (Rect.unit (s := S8x512x1024) off S1x512x1024.size inb).set = slot s := by
  subst h
  ext i
  have b0 : (i 0).val < 8 := (i 0).isLt
  have b1 : (i 1).val < 512 := (i 1).isLt
  have b2 : (i 2).val < 1024 := (i 2).isLt
  rw [Rect.mem_set_unit, slot, Finset.mem_filter]
  constructor
  · intro h
    have h0 : s ≤ (i 0).val ∧ (i 0).val < s + 1 := h 0
    have h1 : 0 ≤ (i 1).val ∧ (i 1).val < 0 + 512 := h 1
    have h2 : 0 ≤ (i 2).val ∧ (i 2).val < 0 + 1024 := h 2
    exact ⟨Finset.mem_univ _, by omega⟩
  · rintro ⟨-, h⟩ a
    match a with
    | ⟨0, _⟩ => exact (show s ≤ (i 0).val ∧ (i 0).val < s + 1 by omega)
    | ⟨1, _⟩ => exact (show 0 ≤ (i 1).val ∧ (i 1).val < 0 + 512 by omega)
    | ⟨2, _⟩ => exact (show 0 ≤ (i 2).val ∧ (i 2).val < 0 + 1024 by omega)

theorem rect_half0 (s : ℕ) (off : Fin 3 → ℕ) (h : off = ![s, 0, 0]) (inb) :
    (Rect.unit (s := S8x512x1024) off S1x512x512.size inb).set = half s 0 := by
  subst h
  ext i
  have b0 : (i 0).val < 8 := (i 0).isLt
  have b1 : (i 1).val < 512 := (i 1).isLt
  have b2 : (i 2).val < 1024 := (i 2).isLt
  rw [Rect.mem_set_unit, half, Finset.mem_filter]
  constructor
  · intro h
    have h0 : s ≤ (i 0).val ∧ (i 0).val < s + 1 := h 0
    have h1 : 0 ≤ (i 1).val ∧ (i 1).val < 0 + 512 := h 1
    have h2 : 0 ≤ (i 2).val ∧ (i 2).val < 0 + 512 := h 2
    exact ⟨Finset.mem_univ _, by omega⟩
  · rintro ⟨-, h⟩ a
    match a with
    | ⟨0, _⟩ => exact (show s ≤ (i 0).val ∧ (i 0).val < s + 1 by omega)
    | ⟨1, _⟩ => exact (show 0 ≤ (i 1).val ∧ (i 1).val < 0 + 512 by omega)
    | ⟨2, _⟩ => exact (show 0 ≤ (i 2).val ∧ (i 2).val < 0 + 512 by omega)

theorem rect_half1 (s : ℕ) (off : Fin 3 → ℕ) (h : off = ![s, 0, 512]) (inb) :
    (Rect.unit (s := S8x512x1024) off S1x512x512.size inb).set = half s 1 := by
  subst h
  ext i
  have b0 : (i 0).val < 8 := (i 0).isLt
  have b1 : (i 1).val < 512 := (i 1).isLt
  have b2 : (i 2).val < 1024 := (i 2).isLt
  rw [Rect.mem_set_unit, half, Finset.mem_filter]
  constructor
  · intro h
    have h0 : s ≤ (i 0).val ∧ (i 0).val < s + 1 := h 0
    have h1 : 0 ≤ (i 1).val ∧ (i 1).val < 0 + 512 := h 1
    have h2 : 512 ≤ (i 2).val ∧ (i 2).val < 512 + 512 := h 2
    exact ⟨Finset.mem_univ _, by omega⟩
  · rintro ⟨-, h⟩ a
    match a with
    | ⟨0, _⟩ => exact (show s ≤ (i 0).val ∧ (i 0).val < s + 1 by omega)
    | ⟨1, _⟩ => exact (show 0 ≤ (i 1).val ∧ (i 1).val < 0 + 512 by omega)
    | ⟨2, _⟩ => exact (show 512 ≤ (i 2).val ∧ (i 2).val < 512 + 512 by omega)

theorem rect_mslot (s : ℕ) (off : Fin 3 → ℕ) (h : off = ![s, 0, 0]) (inb) :
    (Rect.unit (s := S8x8x128) off S1x8x128.size inb).set = mslot s := by
  subst h
  ext i
  have b0 : (i 0).val < 8 := (i 0).isLt
  have b1 : (i 1).val < 8 := (i 1).isLt
  have b2 : (i 2).val < 128 := (i 2).isLt
  rw [Rect.mem_set_unit, mslot, Finset.mem_filter]
  constructor
  · intro h
    have h0 : s ≤ (i 0).val ∧ (i 0).val < s + 1 := h 0
    have h1 : 0 ≤ (i 1).val ∧ (i 1).val < 0 + 8 := h 1
    have h2 : 0 ≤ (i 2).val ∧ (i 2).val < 0 + 128 := h 2
    exact ⟨Finset.mem_univ _, by omega⟩
  · rintro ⟨-, h⟩ a
    match a with
    | ⟨0, _⟩ => exact (show s ≤ (i 0).val ∧ (i 0).val < s + 1 by omega)
    | ⟨1, _⟩ => exact (show 0 ≤ (i 1).val ∧ (i 1).val < 0 + 8 by omega)
    | ⟨2, _⟩ => exact (show 0 ≤ (i 2).val ∧ (i 2).val < 0 + 128 by omega)

theorem rect_wslot (s : ℕ) (off : Fin 3 → ℕ) (h : off = ![s, 0, 0]) (inb) :
    (Rect.unit (s := S3x4096x512) off S1x4096x512.size inb).set = wslot s := by
  subst h
  ext i
  have b0 : (i 0).val < 3 := (i 0).isLt
  have b1 : (i 1).val < 4096 := (i 1).isLt
  have b2 : (i 2).val < 512 := (i 2).isLt
  rw [Rect.mem_set_unit, wslot, Finset.mem_filter]
  constructor
  · intro h
    have h0 : s ≤ (i 0).val ∧ (i 0).val < s + 1 := h 0
    have h1 : 0 ≤ (i 1).val ∧ (i 1).val < 0 + 4096 := h 1
    have h2 : 0 ≤ (i 2).val ∧ (i 2).val < 0 + 512 := h 2
    exact ⟨Finset.mem_univ _, by omega⟩
  · rintro ⟨-, h⟩ a
    match a with
    | ⟨0, _⟩ => exact (show s ≤ (i 0).val ∧ (i 0).val < s + 1 by omega)
    | ⟨1, _⟩ => exact (show 0 ≤ (i 1).val ∧ (i 1).val < 0 + 4096 by omega)
    | ⟨2, _⟩ => exact (show 0 ≤ (i 2).val ∧ (i 2).val < 0 + 512 by omega)

theorem rect_xcol (j : ℕ) (off : Fin 2 → ℕ) (h : off = ![0, 1024 * j]) (inb) :
    (Rect.unit (s := S512x4096) off S512x1024.size inb).set = xcol j := by
  subst h
  ext i
  have b0 : (i 0).val < 512 := (i 0).isLt
  have b1 : (i 1).val < 4096 := (i 1).isLt
  rw [Rect.mem_set_unit, xcol, Finset.mem_filter]
  constructor
  · intro h
    have h0 : 0 ≤ (i 0).val ∧ (i 0).val < 0 + 512 := h 0
    have h1 : 1024 * j ≤ (i 1).val ∧ (i 1).val < 1024 * j + 1024 := h 1
    exact ⟨Finset.mem_univ _, by omega⟩
  · rintro ⟨-, h⟩ a
    match a with
    | ⟨0, _⟩ => exact (show 0 ≤ (i 0).val ∧ (i 0).val < 0 + 512 by omega)
    | ⟨1, _⟩ => exact (show 1024 * j ≤ (i 1).val ∧ (i 1).val < 1024 * j + 1024 by omega)

theorem rect_orow (s : ℕ) (off : Fin 2 → ℕ) (h : off = ![512 * s, 0]) (inb) :
    (Rect.unit (s := S4096x1024) off S512x1024.size inb).set = orow s := by
  subst h
  ext i
  have b0 : (i 0).val < 4096 := (i 0).isLt
  have b1 : (i 1).val < 1024 := (i 1).isLt
  rw [Rect.mem_set_unit, orow, Finset.mem_filter]
  constructor
  · intro h
    have h0 : 512 * s ≤ (i 0).val ∧ (i 0).val < 512 * s + 512 := h 0
    have h1 : 0 ≤ (i 1).val ∧ (i 1).val < 0 + 1024 := h 1
    exact ⟨Finset.mem_univ _, by omega⟩
  · rintro ⟨-, h⟩ a
    match a with
    | ⟨0, _⟩ => exact (show 512 * s ≤ (i 0).val ∧ (i 0).val < 512 * s + 512 by omega)
    | ⟨1, _⟩ => exact (show 0 ≤ (i 1).val ∧ (i 1).val < 0 + 1024 by omega)

/-! ## Squeezed slots: their elements and what they read -/

theorem set_yb (s : ℕ) (off : Fin 3 → ℕ) (h : off = ![s, 0, 0]) (inb) (hs) (q : S1x512x1024.Squeezes S512x1024) :
    ((ybM.slice (Rect.unit (s := S8x512x1024) off S1x512x1024.size inb) hs).squeeze S512x1024 q).view.set = slot s :=
  (View.set_reshape _ _).trans ((View.set_slice_whole _ _).trans (rect_slot s off h inb))
omit [FloatOps F] in
theorem read_yb (s : Fin 8) (off : Fin 3 → ℕ) (h : off = ![s.val, 0, 0]) (inb) (hs) (q : S1x512x1024.Squeezes S512x1024)
    (f : (cc0_scratch3 : Ref sig .tc).ty.Contents (Elt F)) (x : S512x1024.Idx) :
    ((ybM.slice (Rect.unit (s := S8x512x1024) off S1x512x1024.size inb) hs).squeeze S512x1024 q).view.read (Elt F) f x
      = f (ix3 (n0 := 8) (n1 := 512) (n2 := 1024) s (x 0) (x 1)) := by
  subst h
  refine congrArg f ?_
  have e : Shape.reshapeEquiv q.numel_eq x = ix3 (n0 := 1) (n1 := 512) (n2 := 1024) 0 (x 0) (x 1) :=
    (Shape.reshapeEquiv_cons_one (n := 2) (d := ![512, 1024]) q.numel_eq x).trans
      (funext fun a => match a with | ⟨0, _⟩ => rfl | ⟨1, _⟩ => rfl | ⟨2, _⟩ => rfl)
  show (Rect.unit (s := S8x512x1024) ![s.val, 0, 0] S1x512x1024.size inb).emb (Shape.reshapeEquiv q.numel_eq x) = _
  rw [e]
  funext a
  refine Fin.ext ?_
  match a with
  | ⟨0, _⟩ => exact (show s.val + 1 * 0 = s.val by omega)
  | ⟨1, _⟩ => exact (show 0 + 1 * (x 0).val = (x 0).val by omega)
  | ⟨2, _⟩ => exact (show 0 + 1 * (x 1).val = (x 1).val by omega)

theorem set_ybr (s : ℕ) (off : Fin 3 → ℕ) (h : off = ![s, 0, 0]) (inb) (hs) (q : S1x512x1024.Squeezes S512x1024) :
    ((ybrM.slice (Rect.unit (s := S8x512x1024) off S1x512x1024.size inb) hs).squeeze S512x1024 q).view.set = slot s :=
  (View.set_reshape _ _).trans ((View.set_slice_whole _ _).trans (rect_slot s off h inb))
omit [FloatOps F] in
theorem read_ybr (s : Fin 8) (off : Fin 3 → ℕ) (h : off = ![s.val, 0, 0]) (inb) (hs) (q : S1x512x1024.Squeezes S512x1024)
    (f : (cc0_scratch4 : Ref sig .tc).ty.Contents (Elt F)) (x : S512x1024.Idx) :
    ((ybrM.slice (Rect.unit (s := S8x512x1024) off S1x512x1024.size inb) hs).squeeze S512x1024 q).view.read (Elt F) f x
      = f (ix3 (n0 := 8) (n1 := 512) (n2 := 1024) s (x 0) (x 1)) := by
  subst h
  refine congrArg f ?_
  have e : Shape.reshapeEquiv q.numel_eq x = ix3 (n0 := 1) (n1 := 512) (n2 := 1024) 0 (x 0) (x 1) :=
    (Shape.reshapeEquiv_cons_one (n := 2) (d := ![512, 1024]) q.numel_eq x).trans
      (funext fun a => match a with | ⟨0, _⟩ => rfl | ⟨1, _⟩ => rfl | ⟨2, _⟩ => rfl)
  show (Rect.unit (s := S8x512x1024) ![s.val, 0, 0] S1x512x1024.size inb).emb (Shape.reshapeEquiv q.numel_eq x) = _
  rw [e]
  funext a
  refine Fin.ext ?_
  match a with
  | ⟨0, _⟩ => exact (show s.val + 1 * 0 = s.val by omega)
  | ⟨1, _⟩ => exact (show 0 + 1 * (x 0).val = (x 0).val by omega)
  | ⟨2, _⟩ => exact (show 0 + 1 * (x 1).val = (x 1).val by omega)

theorem set_am (s : ℕ) (off : Fin 3 → ℕ) (h : off = ![s, 0, 0]) (inb) (hs) (q : S1x8x128.Squeezes S8x128) :
    ((amM.slice (Rect.unit (s := S8x8x128) off S1x8x128.size inb) hs).squeeze S8x128 q).view.set = mslot s :=
  (View.set_reshape _ _).trans ((View.set_slice_whole _ _).trans (rect_mslot s off h inb))
omit [FloatOps F] in
theorem read_am (s : Fin 8) (off : Fin 3 → ℕ) (h : off = ![s.val, 0, 0]) (inb) (hs) (q : S1x8x128.Squeezes S8x128)
    (f : (cc0_scratch5 : Ref sig .tc).ty.Contents (Elt F)) (x : S8x128.Idx) :
    ((amM.slice (Rect.unit (s := S8x8x128) off S1x8x128.size inb) hs).squeeze S8x128 q).view.read (Elt F) f x
      = f (ix3 (n0 := 8) (n1 := 8) (n2 := 128) s (x 0) (x 1)) := by
  subst h
  refine congrArg f ?_
  have e : Shape.reshapeEquiv q.numel_eq x = ix3 (n0 := 1) (n1 := 8) (n2 := 128) 0 (x 0) (x 1) :=
    (Shape.reshapeEquiv_cons_one (n := 2) (d := ![8, 128]) q.numel_eq x).trans
      (funext fun a => match a with | ⟨0, _⟩ => rfl | ⟨1, _⟩ => rfl | ⟨2, _⟩ => rfl)
  show (Rect.unit (s := S8x8x128) ![s.val, 0, 0] S1x8x128.size inb).emb (Shape.reshapeEquiv q.numel_eq x) = _
  rw [e]
  funext a
  refine Fin.ext ?_
  match a with
  | ⟨0, _⟩ => exact (show s.val + 1 * 0 = s.val by omega)
  | ⟨1, _⟩ => exact (show 0 + 1 * (x 0).val = (x 0).val by omega)
  | ⟨2, _⟩ => exact (show 0 + 1 * (x 1).val = (x 1).val by omega)

theorem set_wb (s : ℕ) (off : Fin 3 → ℕ) (h : off = ![s, 0, 0]) (inb) (hs) (q : S1x4096x512.Squeezes S4096x512) :
    ((wbM.slice (Rect.unit (s := S3x4096x512) off S1x4096x512.size inb) hs).squeeze S4096x512 q).view.set = wslot s :=
  (View.set_reshape _ _).trans ((View.set_slice_whole _ _).trans (rect_wslot s off h inb))
omit [FloatOps F] in
theorem read_wb (s : Fin 3) (off : Fin 3 → ℕ) (h : off = ![s.val, 0, 0]) (inb) (hs) (q : S1x4096x512.Squeezes S4096x512)
    (f : (cc0_scratch2 : Ref sig .tc).ty.Contents (Elt F)) (x : S4096x512.Idx) :
    ((wbM.slice (Rect.unit (s := S3x4096x512) off S1x4096x512.size inb) hs).squeeze S4096x512 q).view.read (Elt F) f x
      = f (ix3 (n0 := 3) (n1 := 4096) (n2 := 512) s (x 0) (x 1)) := by
  subst h
  refine congrArg f ?_
  have e : Shape.reshapeEquiv q.numel_eq x = ix3 (n0 := 1) (n1 := 4096) (n2 := 512) 0 (x 0) (x 1) :=
    (Shape.reshapeEquiv_cons_one (n := 2) (d := ![4096, 512]) q.numel_eq x).trans
      (funext fun a => match a with | ⟨0, _⟩ => rfl | ⟨1, _⟩ => rfl | ⟨2, _⟩ => rfl)
  show (Rect.unit (s := S3x4096x512) ![s.val, 0, 0] S1x4096x512.size inb).emb (Shape.reshapeEquiv q.numel_eq x) = _
  rw [e]
  funext a
  refine Fin.ext ?_
  match a with
  | ⟨0, _⟩ => exact (show s.val + 1 * 0 = s.val by omega)
  | ⟨1, _⟩ => exact (show 0 + 1 * (x 0).val = (x 0).val by omega)
  | ⟨2, _⟩ => exact (show 0 + 1 * (x 1).val = (x 1).val by omega)

/-! ## Sources of the local copies -/

omit [FloatOps F] in
theorem read_w (k : ℕ) (off : Fin 2 → ℕ) (h : off = ![0, k]) (inb) (hs) (f : (main_arg1 : Ref sig .tc).ty.Contents (Elt F)) (x : S4096x512.Idx)
    (hk : k + (x 1).val < 8192) :
    (wM.slice (Rect.unit (s := S4096x8192) off S4096x512.size inb) hs).view.read (Elt F) f x
      = f (ix2 (n0 := 4096) (n1 := 8192) (x 0) ⟨k + (x 1).val, hk⟩) := by
  subst h
  refine congrArg f (funext fun a => Fin.ext ?_)
  match a with
  | ⟨0, _⟩ => exact (show 0 + 1 * (x 0).val = (x 0).val by omega)
  | ⟨1, _⟩ => exact (show k + 1 * (x 1).val = k + (x 1).val by omega)

omit [FloatOps F] in
theorem read_x (k : ℕ) (off : Fin 2 → ℕ) (h : off = ![0, k]) (inb) (hs) (f : (main_arg0 : Ref sig .tc).ty.Contents (Elt F)) (x : S512x1024.Idx)
    (hk : k + (x 1).val < 4096) :
    (xM.slice (Rect.unit (s := S512x4096) off S512x1024.size inb) hs).view.read (Elt F) f x
      = f (ix2 (n0 := 512) (n1 := 4096) (x 0) ⟨k + (x 1).val, hk⟩) := by
  subst h
  refine congrArg f (funext fun a => Fin.ext ?_)
  match a with
  | ⟨0, _⟩ => exact (show 0 + 1 * (x 0).val = (x 0).val by omega)
  | ⟨1, _⟩ => exact (show k + 1 * (x 1).val = k + (x 1).val by omega)

/-! ## Reads through plain rectangles -/

omit [FloatOps F] in
theorem racc_yb (o0 o1 o2 : ℕ) (off : Fin 3 → ℕ) (h : off = ![o0, o1, o2]) (inb) (f : (cc0_scratch3 : Ref sig .tc).ty.Contents (Elt F)) (x : S1x512x512.Idx) (i : S8x512x1024.Idx)
    (h0 : (i 0).val = o0 + (x 0).val) (h1 : (i 1).val = o1 + (x 1).val) (h2 : (i 2).val = o2 + (x 2).val) :
    (ybM.access (Rect.unit (s := S8x512x1024) off S1x512x512.size inb)).read (Elt F) f x = f i := by
  subst h
  refine congrArg f (funext fun a => Fin.ext ?_)
  match a with
  | ⟨0, _⟩ => exact (show o0 + 1 * (x 0).val = (i 0).val by omega)
  | ⟨1, _⟩ => exact (show o1 + 1 * (x 1).val = (i 1).val by omega)
  | ⟨2, _⟩ => exact (show o2 + 1 * (x 2).val = (i 2).val by omega)

omit [FloatOps F] in
theorem racc_ybr (o0 o1 o2 : ℕ) (off : Fin 3 → ℕ) (h : off = ![o0, o1, o2]) (inb) (f : (cc0_scratch4 : Ref sig .tc).ty.Contents (Elt F)) (x : S1x512x1024.Idx) (i : S8x512x1024.Idx)
    (h0 : (i 0).val = o0 + (x 0).val) (h1 : (i 1).val = o1 + (x 1).val) (h2 : (i 2).val = o2 + (x 2).val) :
    (ybrM.access (Rect.unit (s := S8x512x1024) off S1x512x1024.size inb)).read (Elt F) f x = f i := by
  subst h
  refine congrArg f (funext fun a => Fin.ext ?_)
  match a with
  | ⟨0, _⟩ => exact (show o0 + 1 * (x 0).val = (i 0).val by omega)
  | ⟨1, _⟩ => exact (show o1 + 1 * (x 1).val = (i 1).val by omega)
  | ⟨2, _⟩ => exact (show o2 + 1 * (x 2).val = (i 2).val by omega)

omit [FloatOps F] in
theorem racc_am (o0 o1 o2 : ℕ) (off : Fin 3 → ℕ) (h : off = ![o0, o1, o2]) (inb) (f : (cc0_scratch5 : Ref sig .tc).ty.Contents (Elt F)) (x : S1x8x128.Idx) (i : S8x8x128.Idx)
    (h0 : (i 0).val = o0 + (x 0).val) (h1 : (i 1).val = o1 + (x 1).val) (h2 : (i 2).val = o2 + (x 2).val) :
    (amM.access (Rect.unit (s := S8x8x128) off S1x8x128.size inb)).read (Elt F) f x = f i := by
  subst h
  refine congrArg f (funext fun a => Fin.ext ?_)
  match a with
  | ⟨0, _⟩ => exact (show o0 + 1 * (x 0).val = (i 0).val by omega)
  | ⟨1, _⟩ => exact (show o1 + 1 * (x 1).val = (i 1).val by omega)
  | ⟨2, _⟩ => exact (show o2 + 1 * (x 2).val = (i 2).val by omega)

omit [FloatOps F] in
theorem racc_wb (o0 o1 o2 : ℕ) (off : Fin 3 → ℕ) (h : off = ![o0, o1, o2]) (inb) (f : (cc0_scratch2 : Ref sig .tc).ty.Contents (Elt F)) (x : S1x4096x512.Idx) (i : S3x4096x512.Idx)
    (h0 : (i 0).val = o0 + (x 0).val) (h1 : (i 1).val = o1 + (x 1).val) (h2 : (i 2).val = o2 + (x 2).val) :
    (wbM.access (Rect.unit (s := S3x4096x512) off S1x4096x512.size inb)).read (Elt F) f x = f i := by
  subst h
  refine congrArg f (funext fun a => Fin.ext ?_)
  match a with
  | ⟨0, _⟩ => exact (show o0 + 1 * (x 0).val = (i 0).val by omega)
  | ⟨1, _⟩ => exact (show o1 + 1 * (x 1).val = (i 1).val by omega)
  | ⟨2, _⟩ => exact (show o2 + 1 * (x 2).val = (i 2).val by omega)

omit [FloatOps F] in
theorem racc_xb (o0 o1 : ℕ) (off : Fin 2 → ℕ) (h : off = ![o0, o1]) (inb) (f : (cc0_scratch1 : Ref sig .tc).ty.Contents (Elt F)) (x : S512x1024.Idx) (i : S512x4096.Idx)
    (h0 : (i 0).val = o0 + (x 0).val) (h1 : (i 1).val = o1 + (x 1).val) :
    (xbM.access (Rect.unit (s := S512x4096) off S512x1024.size inb)).read (Elt F) f x = f i := by
  subst h
  refine congrArg f (funext fun a => Fin.ext ?_)
  match a with
  | ⟨0, _⟩ => exact (show o0 + 1 * (x 0).val = (i 0).val by omega)
  | ⟨1, _⟩ => exact (show o1 + 1 * (x 1).val = (i 1).val by omega)

omit [FloatOps F] in
theorem racc_o (o0 o1 : ℕ) (off : Fin 2 → ℕ) (h : off = ![o0, o1]) (inb) (f : (cc0_stg0_0 : Ref sig .tc).ty.Contents (Elt F)) (x : S512x1024.Idx) (i : S4096x1024.Idx)
    (h0 : (i 0).val = o0 + (x 0).val) (h1 : (i 1).val = o1 + (x 1).val) :
    (oM.access (Rect.unit (s := S4096x1024) off S512x1024.size inb)).read (Elt F) f x = f i := by
  subst h
  refine congrArg f (funext fun a => Fin.ext ?_)
  match a with
  | ⟨0, _⟩ => exact (show o0 + 1 * (x 0).val = (i 0).val by omega)
  | ⟨1, _⟩ => exact (show o1 + 1 * (x 1).val = (i 1).val by omega)

end Cert.Qdq
end
-- ==== Proof.Sched.lean ====
/-
The protocol: which semaphore is raised by whom, by how much and handing over what; what a device owes; the order in
which semaphores may be waited for.
-/
module

public import proofs.«01_k».proof.Proof.Views

@[expose] public section

set_option maxRecDepth 16384

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## Amounts -/

/-- What the copy of one block credits. -/
def NC : ℕ := ((ybrM.slice (Rect.unit (s := S8x512x1024) ![0, 0, 0] S1x512x1024.size inb_S8x512x1024_S1x512x1024_0_0_0) (fun _ => rfl)).squeeze
  S512x1024 squeezes_S1x512x1024_S512x1024).view.dmaCredit
/-- What the copy of one row of maxima credits. -/
def NA : ℕ := ((amM.slice (Rect.unit (s := S8x8x128) ![0, 0, 0] S1x8x128.size (by decide)) (fun _ => rfl)).squeeze
  S8x128 squeezes_S1x8x128_S8x128).view.dmaCredit

theorem NC_pos : 0 < NC := View.dmaCredit_pos _ (by decide)
theorem NA_pos : 0 < NA := View.dmaCredit_pos _ (by decide)

/-! ## The schedule -/

set_option backward.proofsInPublic true in
/-- Which array of the remote copies a semaphore is in, and at which index. -/
def kind : SemLoc sig → Option (Fin 4 × Fin 8)
  | .dma i => if 6 ≤ i.val then some (⟨(i.val - 6) / 8, by have h : i.val < 38 := i.isLt; omega⟩, ⟨(i.val - 6) % 8, Nat.mod_lt _ (by decide)⟩) else none
  | _ => none

theorem kind_dsem (a : Fin 4) (s : Fin 8) : kind (.dma (dsem a s)) = some (a, s) := by revert a s; decide

/-- The indices in use: a send array's by the distance of the peer (from 1), a receive array's by the peer. -/
abbrev used (c : Dev nD) (a : Fin 4) (s : Fin 8) : Prop := if a.val % 2 = 0 then s.val ≠ 0 else s.val ≠ c.val

/-- What device `c'` hands device `c` at the entry: the places `c` will write on `c'`. -/
def landing (c' c : Dev nD) : sProp 𝕄 :=
  iprop((∃ f, (c' : Thread nD τ).loc cc0_scratch4 ↦[slot c.val]{fullShare} f)
    ∗ (∃ f, (c' : Thread nD τ).loc cc0_scratch5 ↦[mslot c.val]{fullShare} f))

/-- What the completion of a copy hands the device whose semaphore it is: a send array's entry the source back, a
    receive array's the rows that arrived. -/
def pay (c : Dev nD) : Fin 4 → Fin 8 → sProp 𝕄
  | 0, s => (c : Thread nD τ).loc cc0_scratch5 ↦[mslot c.val]{Transfers.shareTokN fullShare (s.val - 1)} AM m
  | 1, s => (c : Thread nD τ).loc cc0_scratch5 ↦[mslot s.val]{fullShare} AM m
  | 2, s => (c : Thread nD τ).loc cc0_scratch3 ↦[slot (rot c s.val).val]{fullShare} YB m c
  | 3, s => (c : Thread nD τ).loc cc0_scratch4 ↦[slot s.val]{fullShare} YBR m c

instance landing_storable (c' c : Dev nD) : BI.Storable (upEmb : UEmb _ 𝕄) (landing (F := F) c' c) := by
  unfold landing; infer_instance
instance pay_storable (c : Dev nD) (a : Fin 4) (s : Fin 8) : BI.Storable (upEmb : UEmb _ 𝕄) (pay m c a s) := by
  match a with
  | 0 => dsimp only [pay]; infer_instance
  | 1 => dsimp only [pay]; infer_instance
  | 2 => dsimp only [pay]; infer_instance
  | 3 => dsimp only [pay]; infer_instance

/-- The amount of an array's entries. -/
def amt (a : Fin 4) : ℕ := if a.val < 2 then NA else NC
theorem amt_pos (a : Fin 4) : 0 < amt a := by unfold amt; split; exact NA_pos; exact NC_pos

/-- The amount of each raise of a semaphore. -/
def amtOf (sm : SemLoc sig) : ℕ := match kind sm with | some (a, _) => amt a | none => 1
theorem amtOf_pos (sm : SemLoc sig) : 0 < amtOf sm := by
  unfold amtOf; split
  · exact amt_pos _
  · exact Nat.one_pos

/-- One round. A barrier semaphore has seven duties of one unit, one from each other device, named by its distance; a
    used entry of an array the duty 0. -/
def Rd : Rounds.Schedule (GSem nD τ sig) (Fin 7) 𝕄 where
  duties g r :=
    if r = 0 ∧ g.1.2 = .tc then
      (if g.2 = .reg barS then Finset.univ
        else match kind g.2 with
          | some (a, s) => if used g.1.1 a s then {0} else ∅
          | none => ∅)
    else ∅
  unitless _ := False
  amount g _ _ := amtOf g.2
  payload g _ d := if g.2 = .reg barS then landing (rot g.1.1 (d.val + 1)) g.1.1 else
    match kind g.2 with
      | some (a, s) => pay m g.1.1 a s
      | none => iprop(emp)
  amount_pos g _ _ _ := amtOf_pos g.2

instance Rd_payload_storable (g : GSem nD τ sig) (r : ℕ) (d : Fin 7) :
    BI.Storable (upEmb : UEmb _ 𝕄) ((Rd m).payload g r d) := by
  dsimp only [Rd]; split
  · infer_instance
  · split <;> infer_instance

section Sched
variable (c : Dev nD) (a : Fin 4) (s : Fin 8)

theorem dma_ne_bar (q : DmaSem sig) : (SemLoc.dma q : SemLoc sig) ≠ .reg barS := fun h => by cases h

omit [FloatOps F]
variable [FloatOps F]

theorem duties_bar : (Rd m).duties (barCell c) 0 = Finset.univ := by
  dsimp only [Rd]; rw [if_pos ⟨rfl, rfl⟩, if_pos rfl]
theorem duties_cell (h : used c a s) : (Rd m).duties (cell c a s) 0 = {0} := by
  dsimp only [Rd]; rw [if_pos ⟨rfl, rfl⟩, if_neg (dma_ne_bar _), kind_dsem]; exact if_pos h
theorem duties_unused (h : ¬ used c a s) (r : ℕ) : (Rd m).duties (cell c a s) r = ∅ := by
  dsimp only [Rd]
  split
  · rw [if_neg (dma_ne_bar _), kind_dsem]; exact if_neg h
  · rfl
theorem duties_later (g : GSem nD τ sig) : ∀ r, 1 ≤ r → (Rd m).duties g r = ∅ :=
  fun r hr => by dsimp only [Rd]; rw [if_neg fun h => by omega]
theorem amount_bar (d : Fin 7) : (Rd m).amount (barCell c) 0 d = 1 := rfl
theorem amount_cell (d : Fin 7) : (Rd m).amount (cell c a s) 0 d = amt a := by
  dsimp only [Rd, amtOf]; rw [kind_dsem]
theorem expect_bar : (Rd m).expect (barCell c) 0 = 7 := by
  unfold Schedule.expect Schedule.amountOf
  rw [duties_bar, Finset.sum_congr rfl fun d _ => amount_bar m c d, Finset.sum_const, Finset.card_univ, Fintype.card_fin, smul_eq_mul]
theorem expect_cell (h : used c a s) : (Rd m).expect (cell c a s) 0 = amt a := by
  unfold Schedule.expect Schedule.amountOf; rw [duties_cell m c a s h, Finset.sum_singleton, amount_cell]
theorem payload_bar (d : Fin 7) : (Rd m).payload (barCell c) 0 d = landing (rot c (d.val + 1)) c := by
  dsimp only [Rd]; rw [if_pos rfl]
theorem payload_cell (d : Fin 7) : (Rd m).payload (cell c a s) 0 d = pay m c a s := by
  dsimp only [Rd]; rw [if_neg (dma_ne_bar _), kind_dsem]
theorem rest_bar : bigSep ((Rd m).duties (barCell c) 0 \ ∅) (fun d => (Rd m).payload (barCell c) 0 d)
    = bigSep Finset.univ fun d : Fin 7 => landing (rot c (d.val + 1)) c := by
  rw [Finset.sdiff_empty, duties_bar]; exact BI.bigSep_congr fun d _ => payload_bar m c d
theorem rest_cell (h : used c a s) : bigSep ((Rd m).duties (cell c a s) 0 \ ∅) (fun d => (Rd m).payload (cell c a s) 0 d) = pay m c a s := by
  rw [Finset.sdiff_empty, duties_cell m c a s h, bigSep_singleton, payload_cell]

end Sched

/-! ## What a device owes -/

/-- The entries of a family of seven from the `k`-th on, summed. -/
def rest (f : Fin 7 → CellTallies nD τ sig Unit) (k : ℕ) : CellTallies nD τ sig Unit := ∑ r ∈ Finset.univ.filter (fun r : Fin 7 => k ≤ r.val), f r

theorem rest_step (f : Fin 7 → CellTallies nD τ sig Unit) (r : Fin 7) : rest f r.val = rest f (r.val + 1) + f r := by
  unfold rest
  rw [show Finset.univ.filter (fun r' : Fin 7 => r.val ≤ r'.val) = insert r (Finset.univ.filter (fun r' : Fin 7 => r.val + 1 ≤ r'.val)) from by
    ext r'
    simp only [Finset.mem_filter, Finset.mem_univ, true_and, Finset.mem_insert, Fin.ext_iff]; omega]
  rw [Finset.sum_insert (by simp), add_comm]
theorem rest_end (f : Fin 7 → CellTallies nD τ sig Unit) : rest f 7 = 0 :=
  Finset.sum_eq_zero fun r hr => by have := r.isLt; have := (Finset.mem_filter.mp hr).2; omega

/-- To each other device: a barrier unit; a block; a row of maxima. -/
def oBar (c : Dev nD) (r : Fin 7) : CellTallies nD τ sig Unit := tallyAt (barCell (rot c (r.val + 1))) () 1
def oCh (c : Dev nD) (r : Fin 7) : CellTallies nD τ sig Unit := tallyAt (cell (rot c (r.val + 1)) 3 c) () NC
def oAm (c : Dev nD) (r : Fin 7) : CellTallies nD τ sig Unit := tallyAt (cell (rot c (r.val + 1)) 1 c) () NA

/-- What device `c` owes after `i` signals, `j` blocks and `k` rows of maxima. -/
def Ow (c : Dev nD) (i j k : ℕ) : CellTallies nD τ sig Unit := rest (oAm c) k + rest (oCh c) j + rest (oBar c) i

theorem Ow_bar (c : Dev nD) (r : Fin 7) (j k : ℕ) : Ow c r.val j k = Ow c (r.val + 1) j k + tallyAt (barCell (rot c (r.val + 1))) () 1 := by
  unfold Ow; rw [rest_step (oBar c) r, ← add_assoc]; rfl
theorem Ow_ch (c : Dev nD) (r : Fin 7) (k : ℕ) : Ow c 7 r.val k = Ow c 7 (r.val + 1) k + tallyAt (cell (rot c (r.val + 1)) 3 c) () NC := by
  unfold Ow; rw [rest_step (oCh c) r, rest_end, add_zero, add_zero, ← add_assoc]; rfl
theorem Ow_am (c : Dev nD) (r : Fin 7) : Ow c 7 7 r.val = Ow c 7 7 (r.val + 1) + tallyAt (cell (rot c (r.val + 1)) 1 c) () NA := by
  unfold Ow; rw [rest_step (oAm c) r, rest_end, rest_end, add_zero, add_zero, add_zero, add_zero]; rfl
theorem Ow_end (c : Dev nD) : Ow c 7 7 7 = 0 := by unfold Ow; rw [rest_end, rest_end, rest_end, add_zero, add_zero]

theorem rest_pos {f : Fin 7 → CellTallies nD τ sig Unit} {k : ℕ} {g : GSem nD τ sig} {u : Unit} (h : 0 < rest f k g u) :
    ∃ r : Fin 7, k ≤ r.val ∧ 0 < f r g u := by
  by_contra hn
  have hz : ∀ r ∈ Finset.univ.filter (fun r : Fin 7 => k ≤ r.val), f r g u = 0 := fun r hr => by
    by_contra h0
    exact hn ⟨r, (Finset.mem_filter.mp hr).2, Nat.pos_of_ne_zero h0⟩
  have : rest f k g u = 0 := by
    unfold rest
    rw [Finset.sum_apply, Finsupp.finset_sum_apply]
    exact Finset.sum_eq_zero hz
  omega

theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

theorem Ow_pos {c : Dev nD} {i j k : ℕ} {g : GSem nD τ sig} {u : Unit} (h : 0 < Ow c i j k g u) :
    (∃ c' : Dev nD, g = barCell c' ∧ i < 7) ∨ (∃ c' : Dev nD, g = cell c' 3 c) ∨ (∃ c' : Dev nD, g = cell c' 1 c) := by
  unfold Ow at h
  rw [Pi.add_apply, Finsupp.add_apply, Pi.add_apply, Finsupp.add_apply] at h
  by_cases h1 : 0 < rest (oAm c) k g u
  · obtain ⟨r, -, hr⟩ := rest_pos h1; exact .inr (.inr ⟨_, tally_pos hr⟩)
  by_cases h2 : 0 < rest (oCh c) j g u
  · obtain ⟨r, -, hr⟩ := rest_pos h2; exact .inr (.inl ⟨_, tally_pos hr⟩)
  obtain ⟨r, hi, hr⟩ := rest_pos (show 0 < rest (oBar c) i g u by omega)
  exact .inl ⟨_, tally_pos hr, lt_of_le_of_lt hi r.isLt⟩

/-! ## Levels: a receive entry above a barrier, a barrier above the rest -/

def L (g : GSem nD τ sig) : Finset Unit := if g.1.2 = .tc then {()} else ∅
def lvs (sm : SemLoc sig) : ℕ := if sm = .reg barS then 1 else match kind sm with | some (a, _) => if a.val % 2 = 1 then 2 else 0 | none => 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (a : Fin 4) (s : Fin 8) (h : a.val % 2 = 1) (u : Unit) : lv (cell c a s) u = 2 := by
  show lvs (.dma (dsem a s)) = 2
  unfold lvs; rw [if_neg (dma_ne_bar _), kind_dsem]; exact if_pos h
theorem lvs_bar : lvs (.reg barS) = 1 := by unfold lvs; exact if_pos rfl
theorem lv_bar (c : Dev nD) (u : Unit) : lv (barCell c) u = 1 := lvs_bar

theorem Ow_L {c : Dev nD} {i j k : ℕ} {g : GSem nD τ sig} {u : Unit} (h : 0 < Ow c i j k g u) : u ∈ L g := by
  rcases Ow_pos h with ⟨c', rfl, -⟩ | ⟨c', rfl⟩ | ⟨c', rfl⟩ <;> rw [L_tc] <;> exact Finset.mem_singleton_self _

/-- A wait at the bottom level may be entered whatever is owed; -/
theorem mayWait_low (c : Dev nD) (sm : SemLoc sig) (hsm : lvs sm = 0) (i j k : ℕ) :
    (levAts L lv : sProp 𝕄) ⊢ MayWait (c : Thread nD τ) sm () (Ow c i j k) :=
  MayOwe.of_cut (L := L) (lev := lv) 0 (fun p hp => by rw [Finset.mem_singleton.mp hp, L_tc]; exact Finset.mem_singleton_self _)
    (fun g u hg => Ow_L hg)
    (fun p hp => by rw [Finset.mem_singleton.mp hp]; exact le_of_eq hsm)
    (fun g u hg => by
      rcases Ow_pos hg with ⟨c', rfl, -⟩ | ⟨c', rfl⟩ | ⟨c', rfl⟩
      · rw [lv_bar]; decide
      · rw [lv_cell _ _ _ (by decide)]; decide
      · rw [lv_cell _ _ _ (by decide)]; decide)
/-- the barrier's wait once every signal is out. -/
theorem mayWait_bar (c : Dev nD) (j k : ℕ) :
    (levAts L lv : sProp 𝕄) ⊢ MayWait (c : Thread nD τ) (.reg barS) () (Ow c 7 j k) :=
  MayOwe.of_cut (L := L) (lev := lv) 1 (fun p hp => by rw [Finset.mem_singleton.mp hp, L_tc]; exact Finset.mem_singleton_self _)
    (fun g u hg => Ow_L hg)
    (fun p hp => by rw [Finset.mem_singleton.mp hp]; exact le_of_eq lvs_bar)
    (fun g u hg => by
      rcases Ow_pos hg with ⟨c', -, h⟩ | ⟨c', rfl⟩ | ⟨c', rfl⟩
      · exact absurd h (Nat.lt_irrefl _)
      · rw [lv_cell _ _ _ (by decide)]; decide
      · rw [lv_cell _ _ _ (by decide)]; decide)

/-! ## The ghost state a device starts from -/

/-- Every semaphore of the protocol: the barrier, or an entry of an array. -/
abbrev KIx : Type := Option (Fin 4 × Fin 8)
abbrev csem : KIx → SemLoc sig
  | none => .reg barS
  | some (a, s) => .dma (dsem a s)
abbrev kcell (ck : Dev nD × KIx) : GSem nD τ sig := ((ck.1 : Thread nD τ), csem ck.2)

/-- The invariants of all the protocol's semaphores on all devices, and that each has reached its round. -/
def invs (K : Dev nD × KIx → ℕ) : sProp 𝕄 :=
  bigSep Finset.univ fun ck : Dev nD × KIx => iprop(cellInv EB (Rd m) (K ck) (kcell ck) ∗ reached EB (kcell ck) 0)

instance invs_persistent (K : Dev nD × KIx → ℕ) : BI.Persistent (invs m K) := by unfold invs; infer_instance

theorem invs_get (K : Dev nD × KIx → ℕ) (ck : Dev nD × KIx) :
    invs m K ⊢ iprop(cellInv EB (Rd m) (K ck) (kcell ck) ∗ reached EB (kcell ck) 0) := by
  unfold invs; exact BI.bigSep_elim (Finset.mem_univ ck)

end Cert.Qdq
end
-- ==== Proof.Steps.lean ====
/-
The kernel's steps between devices, each proved once: a signal of the entry barrier and the wait for it, a copy of a
block or of a row of maxima to another device, and the wait for such a copy at either end.
-/
module

public import proofs.«01_k».proof.Proof.Sched

@[expose] public section

set_option maxRecDepth 16384

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev 𝒱₀ : Variants := Variants.none

variable (m : (ℓ : Loc nD τ sig) → Buf (Elt F) ℓ)

/-- Device `c` owes `O`, whatever it has waited for. -/
abbrev owe (c : Dev nD) (O : CellTallies nD τ sig Unit) : sProp 𝕄 := iprop(∃ W, owes (c : Thread nD τ) O W)

section Steps
variable (K : Dev nD × KIx → ℕ) (c : Dev nD)

/-! ## The entry barrier -/

/-- To signal the device at distance `r + 1`: the duty's token, and the places that device will write here. -/
abbrev sigA (c : Dev nD) (r : Fin 7) : sProp 𝕄 := iprop(dutyTok EB (barCell (rot c (r.val + 1))) 0 (back r) ∗ landing c (rot c (r.val + 1)))
abbrev nothing {n : ℕ} (_ : Fin n) : sProp 𝕄 := iprop(emp)

/-- A signal of the entry barrier hands the peer the places it will write here. -/
theorem wp_sig (r : Fin 7) (n : Dev nD) (hn : n = rot c (r.val + 1)) {kk : ℤ} (hkk : ((1 : ℕ) : ℤ) = kk)
    {Q : PUnit → sProp 𝕄} {k : PUnit → Prog (TpuEff nD τ sig (Elt F) Λ₀ .tc) PUnit} :
    iprop(invs m K ∗ stage (sigA c) nothing r.val ∗ owe c (Ow c r.val 0 0))
      ⊢ iprop(((stage (sigA c) nothing (r.val + 1) ∗ owe c (Ow c (r.val + 1) 0 0)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS kk) k) Q) := by
  subst hn hkk
  iintro ⟨#HI, Hst, ⟨%W, HO⟩⟩ Hk
  ihave ⟨#HIb, #Hr⟩ := (invs_get m K (rot c (r.val + 1), none)) $$ HI
  ihave ⟨⟨Htok, Hland⟩, Hback⟩ := (stage_step (sigA c) nothing r) $$ Hst
  iapply (Rounds.wp_signal 𝒱₀ EB (Rd m) (c : Thread nD τ) none (dst := (Dev.tc (rot c (r.val + 1)) : Thread nD τ)) (κ := K (rot c (r.val + 1), none))
      (d := back r) (by rw [duties_bar]; exact Finset.mem_univ _) (amount_bar m _ _) () (Ow c (r.val + 1) 0 0) (Ow_bar c r 0 0))
    $$ [HO Htok Hland]
  · isplitr; · iexact HIb
    isplitl [HO]; · iexact HO
    isplitl [Htok]; · iexact Htok
    isplitl [Hland]
    · rw [payload_bar, rot_back]; iexact Hland
    iexact Hr
  iintro HO
  iapply Hk
  isplitl [Hback]
  · iapply Hback; iempintro
  iexists W; iexact HO

/-- The wait for the entry barrier gives the places to be written on the seven peers. -/
theorem wp_barwait {kk : ℤ} (hkk : ((7 : ℕ) : ℤ) = kk) {Q : PUnit → sProp 𝕄} {k : PUnit → Prog (TpuEff nD τ sig (Elt F) Λ₀ .tc) PUnit} :
    iprop(invs m K ∗ levAts L lv ∗ cred (tallyAt (barCell c) () 7) ∗ atPos EB (barCell c) 0 ∅ 0 ∗ owe c (Ow c 7 0 0))
      ⊢ iprop((((bigSep Finset.univ fun d : Fin 7 => landing (rot c (d.val + 1)) c) ∗ semVal (barCell c) 0 ∗ owe c (Ow c 7 0 0)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS kk) k) Q) := by
  subst hkk
  iintro ⟨#HI, #Hlev, Hc, Hat, ⟨%W, HO⟩⟩ Hk
  ihave ⟨#HIb, -⟩ := (invs_get m K (c, none)) $$ HI
  iapply (Rounds.wp_wait_rest_token 𝒱₀ EB (Rd m) (c : Thread nD τ) none (κ := K (c, none))
      (wpE_semWait_eq 𝒱₀ (c : Thread nD τ) none Set.univ) (Set.mem_univ _) () (O := Ow c 7 0 0) (W := W) (R := 0) (m := 0) (T := ∅)
      (by rw [expect_bar])) $$ [Hc HO Hat]
  · isplitr; · iexact HIb
    isplitl [Hc]; · iexact Hc
    isplitl [HO]; · iexact HO
    isplitr; · iapply (mayWait_bar c 0 0); iexact Hlev
    iexact Hat
  iintro ⟨HO, Hat, -, Hpay⟩
  ihave Hp := (Entails.of_eq (rest_bar m c)) $$ Hpay
  imod (Rounds.cell_close EB (Rd m) (Set.mem_univ (K (c, none))) (fun h => h) (R := 0 + 1) (duties_later m (barCell c))) $$ [Hat] with Hz
  · isplitr; · iexact HIb
    iexact Hat
  iapply Hk
  isplitl [Hp]; · iexact Hp
  isplitl [Hz]; · iexact Hz
  iexists _; iexact HO

/-! ## Waiting for a copy of an array -/

/-- A wait for an entry of an array of the protocol gives what its copy's completion hands over. -/
theorem wp_cellwait (a : Fin 4) (s : Fin 8) (hu : used c a s) {sem : DmaSem sig} (hsem : sem = dsem a s)
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = amt a) {Q : PUnit → sProp 𝕄} {k : PUnit → Prog (TpuEff nD τ sig (Elt F) Λ₀ .tc) PUnit} :
    iprop(invs m K ∗ cred (tallyAt (cell c a s) () (amt a)) ∗ atPos EB (cell c a s) 0 ∅ 0 ∗ owe c 0)
      ⊢ iprop(((pay m c a s ∗ semVal (cell c a s) 0 ∗ owe c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hsem
  iintro ⟨#HI, Hc, Hat, ⟨%W, HO⟩⟩ Hk
  ihave ⟨#HIb, -⟩ := (invs_get m K (c, some (a, s))) $$ HI
  rw [← hN]
  iapply (Rounds.wp_wait_rest_token 𝒱₀ EB (Rd m) (c : Thread nD τ) none (κ := K (c, some (a, s)))
      (wpE_waitDma2_eq 𝒱₀ (c : Thread nD τ) none Set.univ) (Set.mem_univ _) () (O := 0) (W := W) (R := 0) (m := 0) (T := ∅)
      (by rw [Nat.zero_add, expect_cell m c a s hu]; exact hN)) $$ [Hc HO Hat]
  · isplitr; · iexact HIb
    isplitl [Hc]; · iexact Hc
    isplitl [HO]; · iexact HO
    isplitr; · rw [MayWait_zero]; iempintro
    iexact Hat
  iintro ⟨HO, Hat, -, Hpay⟩
  ihave Hp := (Entails.of_eq (rest_cell m c a s hu)) $$ Hpay
  imod (Rounds.cell_close EB (Rd m) (Set.mem_univ (K (c, some (a, s)))) (fun h => h) (R := 0 + 1) (duties_later m (cell c a s))) $$ [Hat] with Hz
  · isplitr; · iexact HIb
    iexact Hat
  iapply Hk
  isplitl [Hp]; · iexact Hp
  isplitl [Hz]; · iexact Hz
  iexists _; iexact HO

/-- To wait for entry `s r` of an array; and what is then there. -/
abbrev waitA (c : Dev nD) (a : Fin 4) (s : Fin 7 → Fin 8) (r : Fin 7) : sProp 𝕄 :=
  iprop(cred (tallyAt (cell c a (s r)) () (amt a)) ∗ atPos EB (cell c a (s r)) 0 ∅ 0)
abbrev waitB (c : Dev nD) (a : Fin 4) (s : Fin 7 → Fin 8) (r : Fin 7) : sProp 𝕄 :=
  iprop(pay m c a (s r) ∗ semVal (cell c a (s r)) 0)

/-- The same, as one step of seven. -/
theorem wp_waitstage (a : Fin 4) (ix : Fin 7 → Fin 8) (r : Fin 7) (hu : used c a (ix r)) {sem : DmaSem sig} (hsem : sem = dsem a (ix r))
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = amt a) {Q : PUnit → sProp 𝕄} {k : PUnit → Prog (TpuEff nD τ sig (Elt F) Λ₀ .tc) PUnit} :
    iprop(invs m K ∗ stage (waitA c a ix) (waitB m c a ix) r.val ∗ owe c 0)
      ⊢ iprop(((stage (waitA c a ix) (waitB m c a ix) (r.val + 1) ∗ owe c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  iintro ⟨#HI, Hst, HO⟩ Hk
  ihave ⟨⟨Hc, Hat⟩, Hback⟩ := (stage_step (waitA c a ix) (waitB m c a ix) r) $$ Hst
  iapply (wp_cellwait m K c a (ix r) hu hsem hN) $$ [Hc Hat HO]
  · isplitr; · iexact HI
    isplitl [Hc]; · iexact Hc
    isplitl [Hat] <;> iassumption
  iintro ⟨Hp, Hz, HO⟩
  iapply Hk
  isplitr [HO]
  · iapply Hback
    isplitl [Hp] <;> iassumption
  iexact HO

/-! ## The remote copies -/

/-- To send the device at distance `r + 1` its block: the two duties' tokens and the place it lands. -/
abbrev chA (c : Dev nD) (r : Fin 7) : sProp 𝕄 :=
  iprop(dutyTok EB (cell c 2 r.succ) 0 0 ∗ dutyTok EB (cell (rot c (r.val + 1)) 3 c) 0 0
    ∗ ∃ f, (rot c (r.val + 1) : Thread nD τ).loc cc0_scratch4 ↦[slot c.val]{fullShare} f)
abbrev chB (c : Dev nD) (r : Fin 7) : sProp 𝕄 := cred (tallyAt (cell c 2 r.succ) () (amt 2))

/-- An entry of a send array from 1 on is in use. -/
theorem used_send (a : Fin 4) (ha : a.val % 2 = 0) (r : Fin 7) : used c a r.succ := by
  unfold used; rw [if_pos ha]; exact Nat.succ_ne_zero _
/-- An entry of a receive array other than the device's own is in use. -/
theorem used_recv (a : Fin 4) (ha : a.val % 2 = 1) (c' : Dev nD) (s : Fin 8) (h : s.val ≠ c'.val) : used c' a s := by
  unfold used; rw [if_neg (by omega)]; exact h
theorem rot_ne_val (r : Fin 7) : (rot c (r.val + 1)).val ≠ c.val := fun h => rot_ne c r (Fin.ext h)

/-- A block, sent to the peer whose columns it is. -/
theorem wp_chsend (r : Fin 7) (n : Dev nD) (hn : n = rot c (r.val + 1)) {sS sR : DmaSem sig} (hS : sS = dsem 2 r.succ) (hR : sR = dsem 3 c)
    {o1 o2 : Fin 3 → ℕ} (h1 : o1 = ![(rot c (r.val + 1)).val, 0, 0]) (h2 : o2 = ![c.val, 0, 0]) {i1 i2 t1 t2} {q1 q2 : S1x512x1024.Squeezes S512x1024}
    {hsc : ((ybrM.slice (Rect.unit (s := S8x512x1024) o2 S1x512x1024.size i2) t2).squeeze S512x1024 q2 : Memref sig (Dev.tc n : Thread nD τ).2.kind .vmem S512x1024 .bf16).view.ref.isScScratch = false}
    {hsrc : ((ybM.slice (Rect.unit (s := S8x512x1024) o1 S1x512x1024.size i1) t1).squeeze S512x1024 q1).view.WordExact}
    {hdst : ((ybrM.slice (Rect.unit (s := S8x512x1024) o2 S1x512x1024.size i2) t2).squeeze S512x1024 q2).view.WordExact}
    {hsem : DmaTarget.Typed .vmem (.dma sR) (.remote (Dev.tc n : Thread nD τ) ((ybrM.slice (Rect.unit (s := S8x512x1024) o2 S1x512x1024.size i2) t2).squeeze S512x1024 q2 : Memref sig (Dev.tc n : Thread nD τ).2.kind .vmem S512x1024 .bf16) (.dma sS) hsc)}
    {Q : PUnit → sProp 𝕄} {k : PUnit → Prog (TpuEff nD τ sig (Elt F) Λ₀ .tc) PUnit} :
    iprop(invs m K ∗ stage (chA c) (chB c) r.val
        ∗ ((c : Thread nD τ).loc cc0_scratch3 ↦[slot (rot c (r.val + 1)).val]{fullShare} YB m c) ∗ owe c (Ow c 7 r.val 0))
      ⊢ iprop(((stage (chA c) (chB c) (r.val + 1) ∗ owe c (Ow c 7 (r.val + 1) 0)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma ((ybM.slice (Rect.unit (s := S8x512x1024) o1 S1x512x1024.size i1) t1).squeeze S512x1024 q1)
              (.remote (Dev.tc n : Thread nD τ) ((ybrM.slice (Rect.unit (s := S8x512x1024) o2 S1x512x1024.size i2) t2).squeeze S512x1024 q2) (.dma sS) hsc) (.dma sR) hsrc hdst hsem) k) Q) := by
  subst hn hS hR
  iintro ⟨#HI, Hst, Hy, ⟨%W, HO⟩⟩ Hk
  ihave ⟨#HIs, #Hrs⟩ := (invs_get m K (c, some (2, r.succ))) $$ HI
  ihave ⟨#HIr, #Hrr⟩ := (invs_get m K (rot c (r.val + 1), some (3, c))) $$ HI
  ihave ⟨⟨Hts, Htr, ⟨%fd, Hd⟩⟩, Hback⟩ := (stage_step (chA c) (chB c) r) $$ Hst
  have e1 := set_yb (rot c (r.val + 1)).val o1 h1 i1 t1 q1
  have e2 := set_ybr c.val o2 h2 i2 t2 q2
  have hp2 := pts_write (F := F) (c := (rot c (r.val + 1) : Thread nD τ))
      ((ybrM.slice (Rect.unit (s := S8x512x1024) o2 S1x512x1024.size i2) t2).squeeze S512x1024 q2).view fullShare fd (YBR m (rot c (r.val + 1)))
      (((ybM.slice (Rect.unit (s := S8x512x1024) o1 S1x512x1024.size i1) t1).squeeze S512x1024 q1).view.read (Elt F) (YB m c))
      (fun x => (read_yb (rot c (r.val + 1)) o1 h1 i1 t1 q1 (YB m c) x).trans (read_ybr c o2 h2 i2 t2 q2 (YBR m (rot c (r.val + 1))) x).symm)
  have hN : ((ybrM.slice (Rect.unit (s := S8x512x1024) o2 S1x512x1024.size i2) t2).squeeze S512x1024 q2 : Memref sig .tc .vmem S512x1024 .bf16).view.amount (.dma (dsem 3 c)) = NC := rfl
  have hA : (((c : Thread nD τ).loc cc0_scratch3 ↦[((ybM.slice (Rect.unit (s := S8x512x1024) o1 S1x512x1024.size i1) t1).squeeze S512x1024 q1).view.set]{fullShare} YB m c) : sProp 𝕄)
      ⊢ (Rd m).payload (cell c 2 r.succ) 0 0 := by rw [payload_cell, e1]; exact BI.Entails.refl _
  have hB : (((rot c (r.val + 1) : Thread nD τ).loc cc0_scratch4 ↦[((ybrM.slice (Rect.unit (s := S8x512x1024) o2 S1x512x1024.size i2) t2).squeeze S512x1024 q2).view.set]{fullShare}
        ((ybrM.slice (Rect.unit (s := S8x512x1024) o2 S1x512x1024.size i2) t2).squeeze S512x1024 q2).view.write (Elt F) fd
          (((ybM.slice (Rect.unit (s := S8x512x1024) o1 S1x512x1024.size i1) t1).squeeze S512x1024 q1).view.read (Elt F) (YB m c)) Finset.univ) : sProp 𝕄)
      ⊢ (Rd m).payload (cell (rot c (r.val + 1)) 3 c) 0 0 := by rw [payload_cell, hp2, e2]; exact BI.Entails.refl _
  have hd1 : (0 : Fin 7) ∈ (Rd m).duties (cell c 2 r.succ) 0 := by
    rw [duties_cell m c 2 r.succ (used_send c 2 rfl r)]; exact Finset.mem_singleton_self _
  have hd2 : (0 : Fin 7) ∈ (Rd m).duties (cell (rot c (r.val + 1)) 3 c) 0 := by
    rw [duties_cell m (rot c (r.val + 1)) 3 c (used_recv 3 rfl _ _ (rot_ne_val c r).symm)]; exact Finset.mem_singleton_self _
  have hk1 : (Rd m).amount (cell c 2 r.succ) 0 0 = NC := amount_cell m c 2 r.succ 0
  have hk2 : (Rd m).amount (cell (rot c (r.val + 1)) 3 c) 0 0 = NC := amount_cell m (rot c (r.val + 1)) 3 c 0
  have hO : Ow c 7 r.val 0 = Ow c 7 (r.val + 1) 0 + tallyAt (cell (rot c (r.val + 1)) 3 c) () NC := Ow_ch c r 0
  iapply (Rounds.wp_send_pointsTo (defs := (defs₀ (F := F))) 𝒱₀ EB (Rd m) (c : Thread nD τ) none (c' := (rot c (r.val + 1) : Thread nD τ))
    (κ₁ := K (c, some (2, r.succ))) (κ₂ := K (rot c (r.val + 1), some (3, c)))
    (src := ((ybM.slice (Rect.unit (s := S8x512x1024) o1 S1x512x1024.size i1) t1).squeeze S512x1024 q1))
    (dst := ((ybrM.slice (Rect.unit (s := S8x512x1024) o2 S1x512x1024.size i2) t2).squeeze S512x1024 q2))
    (hsc := hsc) (hsrc := hsrc) (hdst := hdst) (hsem := hsem)
    (r₁ := 0) (r₂ := 0) (d₁ := 0) (d₂ := 0) (q := fullShare) (fs := YB m c) (fd := fd)
    hd1 hd2 () () NC hN hk1 hk2 (Ow c 7 (r.val + 1) 0) hO (W := W) hA hB) $$ [Hy Hd HO Hts Htr]
  · isplitr; · iexact HIs
    isplitr; · iexact HIr
    isplitl [Hy]; · rw [e1]; iexact Hy
    isplitl [Hd]; · rw [e2]; iexact Hd
    isplitl [HO]; · iexact HO
    isplitl [Hts]; · iexact Hts
    isplitr; · iexact Hrs
    isplitl [Htr]; · iexact Htr
    iexact Hrr
  iintro ⟨HcS, HO⟩
  iapply Hk
  isplitr [HO]
  · iapply Hback; iexact HcS
  iexists W; iexact HO

/-- To send the device at distance `r + 1` the row of maxima: the tokens, the place it lands and a share of the row. -/
abbrev amA (c : Dev nD) (r : Fin 7) : sProp 𝕄 :=
  iprop(dutyTok EB (cell c 0 r.succ) 0 0 ∗ dutyTok EB (cell (rot c (r.val + 1)) 1 c) 0 0
    ∗ ((c : Thread nD τ).loc cc0_scratch5 ↦[mslot c.val]{Transfers.shareTokN fullShare r.val} AM m)
    ∗ ∃ f, (rot c (r.val + 1) : Thread nD τ).loc cc0_scratch5 ↦[mslot c.val]{fullShare} f)
abbrev amB (c : Dev nD) (r : Fin 7) : sProp 𝕄 := cred (tallyAt (cell c 0 r.succ) () (amt 0))

/-- The row of maxima, sent to a peer at one share. -/
theorem wp_amsend (r : Fin 7) (n : Dev nD) (hn : n = rot c (r.val + 1)) {sS sR : DmaSem sig} (hS : sS = dsem 0 r.succ) (hR : sR = dsem 1 c)
    {o1 o2 : Fin 3 → ℕ} (h1 : o1 = ![c.val, 0, 0]) (h2 : o2 = ![c.val, 0, 0]) {i1 i2 t1 t2} {q1 q2 : S1x8x128.Squeezes S8x128}
    {hsc : ((amM.slice (Rect.unit (s := S8x8x128) o2 S1x8x128.size i2) t2).squeeze S8x128 q2 : Memref sig (Dev.tc n : Thread nD τ).2.kind .vmem S8x128 .f32).view.ref.isScScratch = false}
    {hsrc : ((amM.slice (Rect.unit (s := S8x8x128) o1 S1x8x128.size i1) t1).squeeze S8x128 q1).view.WordExact}
    {hdst : ((amM.slice (Rect.unit (s := S8x8x128) o2 S1x8x128.size i2) t2).squeeze S8x128 q2).view.WordExact}
    {hsem : DmaTarget.Typed .vmem (.dma sR) (.remote (Dev.tc n : Thread nD τ) ((amM.slice (Rect.unit (s := S8x8x128) o2 S1x8x128.size i2) t2).squeeze S8x128 q2 : Memref sig (Dev.tc n : Thread nD τ).2.kind .vmem S8x128 .f32) (.dma sS) hsc)}
    {Q : PUnit → sProp 𝕄} {k : PUnit → Prog (TpuEff nD τ sig (Elt F) Λ₀ .tc) PUnit} :
    iprop(invs m K ∗ stage (amA m c) (amB c) r.val ∗ owe c (Ow c 7 7 r.val))
      ⊢ iprop(((stage (amA m c) (amB c) (r.val + 1) ∗ owe c (Ow c 7 7 (r.val + 1))) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma ((amM.slice (Rect.unit (s := S8x8x128) o1 S1x8x128.size i1) t1).squeeze S8x128 q1)
              (.remote (Dev.tc n : Thread nD τ) ((amM.slice (Rect.unit (s := S8x8x128) o2 S1x8x128.size i2) t2).squeeze S8x128 q2) (.dma sS) hsc) (.dma sR) hsrc hdst hsem) k) Q) := by
  subst hn hS hR
  iintro ⟨#HI, Hst, ⟨%W, HO⟩⟩ Hk
  ihave ⟨#HIs, #Hrs⟩ := (invs_get m K (c, some (0, r.succ))) $$ HI
  ihave ⟨#HIr, #Hrr⟩ := (invs_get m K (rot c (r.val + 1), some (1, c))) $$ HI
  ihave ⟨⟨Hts, Htr, Hy, ⟨%fd, Hd⟩⟩, Hback⟩ := (stage_step (amA m c) (amB c) r) $$ Hst
  have e1 := set_am c.val o1 h1 i1 t1 q1
  have e2 := set_am c.val o2 h2 i2 t2 q2
  have hp2 := pts_write (F := F) (c := (rot c (r.val + 1) : Thread nD τ))
      ((amM.slice (Rect.unit (s := S8x8x128) o2 S1x8x128.size i2) t2).squeeze S8x128 q2).view fullShare fd (AM m)
      (((amM.slice (Rect.unit (s := S8x8x128) o1 S1x8x128.size i1) t1).squeeze S8x128 q1).view.read (Elt F) (AM m))
      (fun x => (read_am c o1 h1 i1 t1 q1 (AM m) x).trans (read_am c o2 h2 i2 t2 q2 (AM m) x).symm)
  have hN : ((amM.slice (Rect.unit (s := S8x8x128) o2 S1x8x128.size i2) t2).squeeze S8x128 q2 : Memref sig .tc .vmem S8x128 .f32).view.amount (.dma (dsem 1 c)) = NA := rfl
  have hA : (((c : Thread nD τ).loc cc0_scratch5 ↦[((amM.slice (Rect.unit (s := S8x8x128) o1 S1x8x128.size i1) t1).squeeze S8x128 q1).view.set]{Transfers.shareTokN fullShare r.val} AM m) : sProp 𝕄)
      ⊢ (Rd m).payload (cell c 0 r.succ) 0 0 := by rw [payload_cell, e1]; exact BI.Entails.refl _
  have hB : (((rot c (r.val + 1) : Thread nD τ).loc cc0_scratch5 ↦[((amM.slice (Rect.unit (s := S8x8x128) o2 S1x8x128.size i2) t2).squeeze S8x128 q2).view.set]{fullShare}
        ((amM.slice (Rect.unit (s := S8x8x128) o2 S1x8x128.size i2) t2).squeeze S8x128 q2).view.write (Elt F) fd
          (((amM.slice (Rect.unit (s := S8x8x128) o1 S1x8x128.size i1) t1).squeeze S8x128 q1).view.read (Elt F) (AM m)) Finset.univ) : sProp 𝕄)
      ⊢ (Rd m).payload (cell (rot c (r.val + 1)) 1 c) 0 0 := by rw [payload_cell, hp2, e2]; exact BI.Entails.refl _
  have hd1 : (0 : Fin 7) ∈ (Rd m).duties (cell c 0 r.succ) 0 := by
    rw [duties_cell m c 0 r.succ (used_send c 0 rfl r)]; exact Finset.mem_singleton_self _
  have hd2 : (0 : Fin 7) ∈ (Rd m).duties (cell (rot c (r.val + 1)) 1 c) 0 := by
    rw [duties_cell m (rot c (r.val + 1)) 1 c (used_recv 1 rfl _ _ (rot_ne_val c r).symm)]; exact Finset.mem_singleton_self _
  have hk1 : (Rd m).amount (cell c 0 r.succ) 0 0 = NA := amount_cell m c 0 r.succ 0
  have hk2 : (Rd m).amount (cell (rot c (r.val + 1)) 1 c) 0 0 = NA := amount_cell m (rot c (r.val + 1)) 1 c 0
  have hO : Ow c 7 7 r.val = Ow c 7 7 (r.val + 1) + tallyAt (cell (rot c (r.val + 1)) 1 c) () NA := Ow_am c r
  iapply (Rounds.wp_send_pointsTo (defs := (defs₀ (F := F))) 𝒱₀ EB (Rd m) (c : Thread nD τ) none (c' := (rot c (r.val + 1) : Thread nD τ))
    (κ₁ := K (c, some (0, r.succ))) (κ₂ := K (rot c (r.val + 1), some (1, c)))
    (src := ((amM.slice (Rect.unit (s := S8x8x128) o1 S1x8x128.size i1) t1).squeeze S8x128 q1))
    (dst := ((amM.slice (Rect.unit (s := S8x8x128) o2 S1x8x128.size i2) t2).squeeze S8x128 q2))
    (hsc := hsc) (hsrc := hsrc) (hdst := hdst) (hsem := hsem)
    (r₁ := 0) (r₂ := 0) (d₁ := 0) (d₂ := 0) (q := Transfers.shareTokN fullShare r.val) (fs := AM m) (fd := fd)
    hd1 hd2 () () NA hN hk1 hk2 (Ow c 7 7 (r.val + 1)) hO (W := W) hA hB) $$ [Hy Hd HO Hts Htr]
  · isplitr; · iexact HIs
    isplitr; · iexact HIr
    isplitl [Hy]; · rw [e1]; iexact Hy
    isplitl [Hd]; · rw [e2]; iexact Hd
    isplitl [HO]; · iexact HO
    isplitl [Hts]; · iexact Hts
    isplitr; · iexact Hrs
    isplitl [Htr]; · iexact Htr
    iexact Hrr
  iintro ⟨HcS, HO⟩
  iapply Hk
  isplitr [HO]
  · iapply Hback; iexact HcS
  iexists W; iexact HO

end Steps

end Cert.Qdq
end
-- ==== Proof.Local.lean ====
/-
The kernel's steps within a device, each proved once: a chunk of the weights copied in, a half block computed and stored,
a column block of the left operand narrowed, the own block moved over, the row of maxima filled, a row block of the result.
-/
module

public import proofs.«01_k».proof.Proof.Steps

@[expose] public section

set_option maxRecDepth 16384

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

set_option backward.proofsInPublic true in
/-- The semaphores of the copies within the device: the left operand's, the three of the weights' slots, the own block's. -/
def xsem : DmaSem sig := ⟨1, by show _ < 38; decide⟩
set_option backward.proofsInPublic true in
def wsem (k : Fin 3) : DmaSem sig := ⟨2 + k.val, by have := k.isLt; show _ < 38; omega⟩
set_option backward.proofsInPublic true in
def osem : DmaSem sig := ⟨5, by show _ < 38; decide⟩

theorem sem7 (off : Fin 1 → ℕ) (k : Fin 3) (h : off = ![k.val]) (inb) (q) :
    ((cc0_scratch7.slice (Rect.unit (s := S3) off S1.size inb)).squeeze S_ q).sem = wsem k := by
  subst h; revert k; decide
theorem lvs_x : lvs (.dma xsem) = 0 := by decide
theorem lvs_w (k : Fin 3) : lvs (.dma (wsem k)) = 0 := by revert k; decide
theorem lvs_o : lvs (.dma osem) = 0 := by decide

set_option backward.proofsInPublic true in
/-- What a copy of one chunk of the weights credits, and of one column block of the left operand. -/
def NW : ℕ := ((wbM.slice (Rect.unit (s := S3x4096x512) ![0, 0, 0] S1x4096x512.size (by decide)) (fun _ => rfl)).squeeze
  S4096x512 squeezes_S1x4096x512_S4096x512).view.dmaCredit
def NX : ℕ := xsM.view.dmaCredit
theorem NW_pos : 0 < NW := View.dmaCredit_pos _ (by decide)
theorem NX_pos : 0 < NX := View.dmaCredit_pos _ (by decide)

/-- A chunk of the weights in whichever slot. -/
def WB (c : Dev nD) (s : Dev nD) (h : Fin 2) : FVec F S3x4096x512 .f32 := fun i => Wc m c s h (ix3 (n0 := 1) (n1 := 4096) (n2 := 512) 0 (i 1) (i 2))

/-- A slot of the weight buffer while no copy into it is under way. -/
abbrev wFree (c : Dev nD) (k : Fin 3) : sProp 𝕄 :=
  iprop((∃ f, (c : Thread nD τ).loc cc0_scratch2 ↦[wslot k.val]{fullShare} f) ∗ semVal ((c : Thread nD τ), .dma (wsem k)) 0
    ∗ ((c : Thread nD τ).loc main_arg1 ↦[Finset.univ]{Transfers.shareTokN fullShare k.val} Wt m c))
/-- A slot of the weight buffer with a chunk on its way. -/
abbrev wFly (c : Dev nD) (k : Fin 3) (s : Dev nD) (h : Fin 2) : sProp 𝕄 :=
  iprop(∃ S : Finset S4096x8192.Idx, Transfers.Flight EC (c : Thread nD τ) (.dma (wsem k)) () NW
      iprop(((c : Thread nD τ).loc cc0_scratch2 ↦[wslot k.val]{fullShare} WB m c s h)
        ∗ ((c : Thread nD τ).loc main_arg1 ↦[S]{Transfers.shareTokN fullShare k.val} Wt m c))
    ∗ ⌜S ⊆ Finset.univ⌝ ∗ ((c : Thread nD τ).loc main_arg1 ↦[Finset.univ \ S]{Transfers.shareTokN fullShare k.val} Wt m c))

/-- The wait of a local copy is at the bottom level. -/
theorem wp_lwait (c : Dev nD) (i j k' : ℕ) {sem : DmaSem sig} (hl : lvs (.dma sem) = 0) {N : ℕ} {D : sProp 𝕄}
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = N) {Q : PUnit → sProp 𝕄} {k : PUnit → Prog (TpuEff nD τ sig (Elt F) Λ₀ .tc) PUnit} :
    iprop(levAts L lv ∗ Transfers.Flight EC (c : Thread nD τ) (.dma sem) () N D ∗ owe c (Ow c i j k'))
      ⊢ iprop(((D ∗ semVal ((c : Thread nD τ), .dma sem) 0 ∗ owe c (Ow c i j k')) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  iintro ⟨#Hlev, HF, ⟨%W, HO⟩⟩ Hk
  iapply (Transfers.wp_waitLocalO EC 𝒱₀ (c : Thread nD τ) none () hN) $$ [HF HO]
  · isplitl [HF]; · iexact HF
    isplitl [HO]; · iexact HO
    iapply (mayWait_low c (.dma sem) hl i j k'); iexact Hlev
  iintro ⟨HD, Hz, HO⟩
  iapply Hk
  isplitl [HD]; · iexact HD
  isplitl [Hz]; · iexact Hz
  iexists _; iexact HO

section Local
variable (c : Dev nD)

/-! ## The weights -/

/-- A chunk's copy is started. -/
theorem wp_wstart (k : Fin 3) (s : Dev nD) (h : Fin 2) {sm : DmaSem sig} (hsm : sm = wsem k)
    {o1 : Fin 2 → ℕ} (h1 : o1 = ![0, 1024 * s.val + 512 * h.val]) {o2 : Fin 3 → ℕ} (h2 : o2 = ![k.val, 0, 0]) {i1 i2 t1 t2} {q2 : S1x4096x512.Squeezes S4096x512}
    {hsrc : (wM.slice (Rect.unit (s := S4096x8192) o1 S4096x512.size i1) t1).view.WordExact}
    {hdst : ((wbM.slice (Rect.unit (s := S3x4096x512) o2 S1x4096x512.size i2) t2).squeeze S4096x512 q2).view.WordExact}
    {hsem : DmaTarget.Typed (nD := nD) .hbm (.dma sm) (.here ((wbM.slice (Rect.unit (s := S3x4096x512) o2 S1x4096x512.size i2) t2).squeeze S4096x512 q2) : DmaTarget nD τ sig .tc .vmem S4096x512 .f32)}
    {Q : PUnit → sProp 𝕄} {kk : PUnit → Prog (TpuEff nD τ sig (Elt F) Λ₀ .tc) PUnit} :
    wFree m c k
      ⊢ iprop((wFly m c k s h -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (wM.slice (Rect.unit (s := S4096x8192) o1 S4096x512.size i1) t1)
              (.here ((wbM.slice (Rect.unit (s := S3x4096x512) o2 S1x4096x512.size i2) t2).squeeze S4096x512 q2)) (.dma sm) hsrc hdst hsem) kk) Q) := by
  subst hsm
  iintro ⟨⟨%fd, Hd⟩, Hz, Ha⟩ Hk
  have e2 := set_wb k.val o2 h2 i2 t2 q2
  have hp2 := pts_write (F := F) (c := (c : Thread nD τ))
      ((wbM.slice (Rect.unit (s := S3x4096x512) o2 S1x4096x512.size i2) t2).squeeze S4096x512 q2).view fullShare fd (WB m c s h)
      ((wM.slice (Rect.unit (s := S4096x8192) o1 S4096x512.size i1) t1).view.read (Elt F) (Wt m c))
      (fun x => by
        have hx : (x 1).val < 512 := (x 1).isLt
        have hh := h.isLt
        have hs : s.val < 8 := s.isLt
        refine (read_w (1024 * s.val + 512 * h.val) o1 h1 i1 t1 (Wt m c) x (by omega)).trans ?_
        rw [read_wb k o2 h2 i2 t2 q2 (WB m c s h) x]; rfl)
  have hN : ((wbM.slice (Rect.unit (s := S3x4096x512) o2 S1x4096x512.size i2) t2).squeeze S4096x512 q2 : Memref sig .tc .vmem S4096x512 .f32).view.amount (.dma (wsem k)) = NW := rfl
  ihave ⟨Ha1, Ha2⟩ := (pointsTo_split_subset (Finset.subset_univ ((wM.slice (Rect.unit (s := S4096x8192) o1 S4096x512.size i1) t1).view.set))).1 $$ Ha
  iapply (Transfers.wp_dmaLocal EC 𝒱₀ (c : Thread nD τ) none
    (src := wM.slice (Rect.unit (s := S4096x8192) o1 S4096x512.size i1) t1)
    (dst := (wbM.slice (Rect.unit (s := S3x4096x512) o2 S1x4096x512.size i2) t2).squeeze S4096x512 q2)
    (via := .same) (hsrc := hsrc) (hdst := hdst) (hsem := hsem) (fs := Wt m c) (fd := fd)
    (Sd := ((wbM.slice (Rect.unit (s := S3x4096x512) o2 S1x4096x512.size i2) t2).squeeze S4096x512 q2).view.set)
    () NW hN NW_pos (Finset.Subset.refl _)) $$ [Ha1 Hd Hz]
  · isplitl [Ha1]; · iexact Ha1
    isplitl [Hd]; · rw [e2]; iexact Hd
    iexact Hz
  rw [show (ReadAs.same : ReadAs (Elt F) S4096x512 .f32 S4096x512 .f32).apply ((wM.slice (Rect.unit (s := S4096x8192) o1 S4096x512.size i1) t1).view.read (Elt F) (Wt m c))
    = (wM.slice (Rect.unit (s := S4096x8192) o1 S4096x512.size i1) t1).view.read (Elt F) (Wt m c) from rfl, hp2, e2]
  iintro HF
  iapply Hk
  iexists ((wM.slice (Rect.unit (s := S4096x8192) o1 S4096x512.size i1) t1).view.set)
  isplitl [HF]; · iexact HF
  isplitr; · ipureintro; exact Finset.subset_univ _
  iexact Ha2

theorem rect_half (s : ℕ) (h : Fin 2) (off : Fin 3 → ℕ) (ho : off = ![s, 0, 512 * h.val]) (inb) :
    (Rect.unit (s := S8x512x1024) off S1x512x512.size inb).set = half s h.val := by
  match h with
  | 0 => exact rect_half0 s off ho inb
  | 1 => exact rect_half1 s off ho inb

/-- One half block: the wait for its chunk, the loads, and the store of the product. -/
theorem wp_mm (k : Fin 3) (s : Dev nD) (h : Fin 2) (i j k' : ℕ) {sm : DmaSem sig} (hsm : sm = wsem k)
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = NW) {iX} {oW : Fin 3 → ℕ} (hW : oW = ![k.val, 0, 0]) {iW} {oY : Fin 3 → ℕ} (hY : oY = ![s.val, 0, 512 * h.val]) {iY}
    {hl1 : xbM.view.LoadsAt (Rect.unit (s := S512x4096) ![0, 0] S512x4096.size iX).toLoadRect}
    {hl2 : wbM.view.LoadsAt (Rect.unit (s := S3x4096x512) oW S1x4096x512.size iW).toLoadRect}
    {hl3 : ybM.view.LoadsAt (Rect.unit (s := S8x512x1024) oY S1x512x512.size iY).toLoadRect}
    {pay : Vec F S512x4096 .bf16 → Vec F S1x4096x512 .f32 → FVec F S1x512x512 .bf16} (hpay : ∀ v w, pay v w = k0_pay9 v w)
    {hx : (ybM.access (Rect.unit (s := S8x512x1024) oY S1x512x512.size iY)).Stores Finset.univ} {hm}
    {Q : PUnit → sProp 𝕄} {kk : Vec F S512x4096 .bf16 → Vec F S1x4096x512 .f32 → Prog (TpuEff nD τ sig (Elt F) Λ₀ .tc) PUnit} :
    iprop(levAts L lv ∗ wFly m c k s h ∗ ((c : Thread nD τ).loc cc0_scratch1 ↦[Finset.univ]{fullShare} XB m c)
        ∗ (∃ f, (c : Thread nD τ).loc cc0_scratch3 ↦[half s.val h.val]{fullShare} f) ∗ owe c (Ow c i j k'))
      ⊢ iprop(((wFree m c k ∗ ((c : Thread nD τ).loc cc0_scratch1 ↦[Finset.univ]{fullShare} XB m c)
            ∗ ((c : Thread nD τ).loc cc0_scratch3 ↦[half s.val h.val]{fullShare} YB m c) ∗ owe c (Ow c i j k'))
            -∗ wp frame (wpE (defs₀ (F := F)) 𝒱₀ (c : Thread nD τ) none) Set.univ (kk (XB m c) (Wc m c s h)) Q)
          -∗ wp frame (wpE (defs₀ (F := F)) 𝒱₀ (c : Thread nD τ) none) Set.univ (.op (.waitDma2 sm srcw dstw hsrc hdst) fun _ =>
              .op (.load xbM (Rect.unit (s := S512x4096) ![0, 0] S512x4096.size iX).toLoadRect hl1) fun v =>
              .op (.load wbM (Rect.unit (s := S3x4096x512) oW S1x4096x512.size iW).toLoadRect hl2) fun w =>
              .op (.load ybM (Rect.unit (s := S8x512x1024) oY S1x512x512.size iY).toLoadRect hl3) fun _ =>
              .op (.store ybM (Rect.unit (s := S8x512x1024) oY S1x512x512.size iY) (pay v w) Finset.univ hx hm) fun _ => kk v w) Q) := by
  subst hsm
  iintro ⟨#Hlev, ⟨%S, HF, %hS, Ha2⟩, Hx, ⟨%fy, Hy⟩, HO⟩ Hk
  iapply (wp_lwait c i j k' (lvs_w k) hN) $$ [HF HO]
  · isplitr; · iexact Hlev
    isplitl [HF] <;> iassumption
  iintro ⟨⟨Hw, Ha1⟩, Hz, HO⟩
  iapply (wp_load 𝒱₀ (c : Thread nD τ) none Set.univ (m := xbM) (Finset.subset_univ _)) $$ Hx; iintro Hx
  have hrx : xbM.view.readAt (Elt F) (Rect.unit (s := S512x4096) ![0, 0] S512x4096.size iX).toLoadRect (XB m c) = XB m c :=
    Memref.readAt_unit_zero (Elt F) cc0_scratch1 (show (![0, 0] : Fin 2 → ℕ) = fun _ => 0 by decide) iX (XB m c)
  rw [hrx]
  have eW : (wbM.access (Rect.unit (s := S3x4096x512) oW S1x4096x512.size iW)).set = wslot k.val :=
    (View.set_slice_whole _ _).trans (rect_wslot k.val oW hW iW)
  have eY : (ybM.access (Rect.unit (s := S8x512x1024) oY S1x512x512.size iY)).set = half s.val h.val :=
    (View.set_slice_whole _ _).trans (rect_half s.val h oY hY iY)
  iapply (wp_load_rect 𝒱₀ (c : Thread nD τ) none Set.univ (m := wbM) (r := Rect.unit (s := S3x4096x512) oW S1x4096x512.size iW) (S := wslot k.val)
    (by rw [eW])) $$ Hw; iintro Hw
  have hrw : (wbM.access (Rect.unit (s := S3x4096x512) oW S1x4096x512.size iW)).read (Elt F) (WB m c s h) = Wc m c s h := by
    funext x
    have x0 : (x 0).val < 1 := (x 0).isLt
    rw [racc_wb k.val 0 0 oW hW iW (WB m c s h) x (ix3 (n0 := 3) (n1 := 4096) (n2 := 512) k (x 1) (x 2)) (by show k.val = k.val + _; omega)
      (by show (x 1).val = 0 + _; omega) (by show (x 2).val = 0 + _; omega)]
    show Wc m c s h (ix3 (n0 := 1) (n1 := 4096) (n2 := 512) 0 (x 1) (x 2)) = _
    refine congrArg (Wc m c s h) (funext fun a => ?_)
    match a with
    | ⟨0, _⟩ => exact Fin.ext (show 0 = (x 0).val by omega)
    | ⟨1, _⟩ => rfl
    | ⟨2, _⟩ => rfl
  rw [hrw]
  iapply (wp_load_rect 𝒱₀ (c : Thread nD τ) none Set.univ (m := ybM) (r := Rect.unit (s := S8x512x1024) oY S1x512x512.size iY) (S := half s.val h.val)
    (by rw [eY])) $$ Hy; iintro Hy
  iapply (wp_store 𝒱₀ (c : Thread nD τ) none Set.univ (m := ybM) (r := Rect.unit (s := S8x512x1024) oY S1x512x512.size iY) (Mk := Finset.univ) (S := half s.val h.val)
    (by rw [View.setOn_univ, eY])) $$ Hy; iintro Hy
  have hp := pts_write (F := F) (c := (c : Thread nD τ)) (ybM.access (Rect.unit (s := S8x512x1024) oY S1x512x512.size iY)) fullShare fy (YB m c)
    (pay (XB m c) (Wc m c s h)) (fun x => by
      have x0 : (x 0).val < 1 := (x 0).isLt
      have x1 : (x 1).val < 512 := (x 1).isLt
      have x2 : (x 2).val < 512 := (x 2).isLt
      have hh := h.isLt
      rw [racc_yb s.val 0 (512 * h.val) oY hY iY (YB m c) x (ix3 (n0 := 8) (n1 := 512) (n2 := 1024) s (x 1) ⟨512 * h.val + (x 2).val, by omega⟩)
        (by show s.val = s.val + _; omega) (by show (x 1).val = 0 + _; omega) rfl, hpay]
      show _ = k0_pay9 (XB m c) (Wc m c s ⟨(512 * h.val + (x 2).val) / 512, _⟩) (ix3 (n0 := 1) (n1 := 512) (n2 := 512) 0 (x 1) ⟨(512 * h.val + (x 2).val) % 512, _⟩)
      rw [show (⟨(512 * h.val + (x 2).val) / 512, by omega⟩ : Fin 2) = h from Fin.ext (by dsimp only; omega)]
      refine congrArg (k0_pay9 (XB m c) (Wc m c s h)) (funext fun a => ?_)
      match a with
      | ⟨0, _⟩ => exact Fin.ext (show (x 0).val = 0 by omega)
      | ⟨1, _⟩ => rfl
      | ⟨2, _⟩ => exact Fin.ext (show (x 2).val = (512 * h.val + (x 2).val) % 512 by omega))
  rw [eY] at hp
  iapply Hk
  isplitr [Hx Hy HO]
  · isplitl [Hw]; · iexists _; iexact Hw
    isplitl [Hz]; · iexact Hz
    iapply (pointsTo_split_subset hS).2
    isplitl [Ha1] <;> iassumption
  isplitl [Hx]; · iexact Hx
  isplitl [Hy]; · ihave Hy := (Entails.of_eq hp) $$ Hy; iexact Hy
  iexact HO

/-! ## The left operand -/

/-- One column block of the left operand: copied in, narrowed, stored. -/
theorem wp_xstage (j : Fin 4) (i' j' k' : ℕ) {sm : DmaSem sig} (hsm : sm = xsem)
    {o1 : Fin 2 → ℕ} (h1 : o1 = ![0, 1024 * j.val]) {i1 t1 i0}
    {o2 : Fin 2 → ℕ} (h2 : o2 = ![0, 1024 * j.val]) {i2}
    {hsrc : (xM.slice (Rect.unit (s := S512x4096) o1 S512x1024.size i1) t1).view.WordExact} {hdst : xsM.view.WordExact}
    {hsem : DmaTarget.Typed (nD := nD) .hbm (.dma sm) (.here xsM : DmaTarget nD τ sig .tc .vmem S512x1024 .f32)}
    {sp' : Space} {sh' : Shape} {e' : EltTy} {srcw : Memref sig .tc sp' sh' e'} {hsrc' : srcw.view.WordExact} {hdst' : xsM.view.WordExact}
    {hl1 : xsM.view.LoadsAt (Rect.unit (s := S512x1024) ![0, 0] S512x1024.size i0).toLoadRect}
    {hl2 : xbM.view.LoadsAt (Rect.unit (s := S512x4096) o2 S512x1024.size i2).toLoadRect}
    {pay : Vec F S512x1024 .f32 → FVec F S512x1024 .bf16} (hpay : ∀ v, pay v = k0_pay1 v)
    {hx : (xbM.access (Rect.unit (s := S512x4096) o2 S512x1024.size i2)).Stores Finset.univ} {hm}
    {Q : PUnit → sProp 𝕄} {kk : PUnit → Prog (TpuEff nD τ sig (Elt F) Λ₀ .tc) PUnit} :
    iprop(levAts L lv ∗ (∃ f, (c : Thread nD τ).loc cc0_scratch0 ↦[Finset.univ]{fullShare} f) ∗ semVal ((c : Thread nD τ), .dma xsem) 0
        ∗ ((c : Thread nD τ).loc main_arg0 ↦[Finset.univ]{fullShare} X m c)
        ∗ (∃ f, (c : Thread nD τ).loc cc0_scratch1 ↦[xcol j.val]{fullShare} f) ∗ owe c (Ow c i' j' k'))
      ⊢ iprop((((∃ f, (c : Thread nD τ).loc cc0_scratch0 ↦[Finset.univ]{fullShare} f) ∗ semVal ((c : Thread nD τ), .dma xsem) 0
            ∗ ((c : Thread nD τ).loc main_arg0 ↦[Finset.univ]{fullShare} X m c)
            ∗ ((c : Thread nD τ).loc cc0_scratch1 ↦[xcol j.val]{fullShare} XB m c) ∗ owe c (Ow c i' j' k'))
            -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (xM.slice (Rect.unit (s := S512x4096) o1 S512x1024.size i1) t1) (.here xsM) (.dma sm) hsrc hdst hsem) fun _ =>
              .op (.waitDma2 sm srcw xsM hsrc' hdst') fun _ =>
              .op (.load xsM (Rect.unit (s := S512x1024) ![0, 0] S512x1024.size i0).toLoadRect hl1) fun v =>
              .op (.load xbM (Rect.unit (s := S512x4096) o2 S512x1024.size i2).toLoadRect hl2) fun _ =>
              .op (.store xbM (Rect.unit (s := S512x4096) o2 S512x1024.size i2) (pay v) Finset.univ hx hm) kk) Q) := by
  subst hsm
  iintro ⟨#Hlev, ⟨%fs, Hs⟩, Hz, Ha, ⟨%fx, Hx⟩, HO⟩ Hk
  have jl := j.isLt
  have hN : (xsM : Memref sig .tc .vmem S512x1024 .f32).view.amount (.dma xsem) = NX := rfl
  have eS : xsM.view.set = Finset.univ := View.set_whole _
  have hr : (xM.slice (Rect.unit (s := S512x4096) o1 S512x1024.size i1) t1).view.read (Elt F) (X m c) = Xcol m c j := by
    funext x
    have hx : (x 1).val < 1024 := (x 1).isLt
    exact read_x (1024 * j.val) o1 h1 i1 t1 (X m c) x (by omega)
  have hp1 := pts_write (F := F) (c := (c : Thread nD τ)) xsM.view fullShare fs (Xcol m c j) (Xcol m c j) (fun x => rfl)
  ihave ⟨Ha1, Ha2⟩ := (pointsTo_split_subset (Finset.subset_univ ((xM.slice (Rect.unit (s := S512x4096) o1 S512x1024.size i1) t1).view.set))).1 $$ Ha
  iapply (Transfers.wp_dmaLocal EC 𝒱₀ (c : Thread nD τ) none
    (src := xM.slice (Rect.unit (s := S512x4096) o1 S512x1024.size i1) t1) (dst := xsM)
    (via := .same) (hsrc := hsrc) (hdst := hdst) (hsem := hsem) (fs := X m c) (fd := fs) (Sd := xsM.view.set)
    () NX hN NX_pos (Finset.Subset.refl _)) $$ [Ha1 Hs Hz]
  · isplitl [Ha1]; · iexact Ha1
    isplitl [Hs]; · rw [eS]; iexact Hs
    iexact Hz
  rw [show (ReadAs.same : ReadAs (Elt F) S512x1024 .f32 S512x1024 .f32).apply ((xM.slice (Rect.unit (s := S512x4096) o1 S512x1024.size i1) t1).view.read (Elt F) (X m c))
    = (xM.slice (Rect.unit (s := S512x4096) o1 S512x1024.size i1) t1).view.read (Elt F) (X m c) from rfl, hr, hp1, eS]
  iintro HF
  iapply (wp_lwait c i' j' k' lvs_x (show xsM.view.dmaCredit = NX from rfl)) $$ [HF HO]
  · isplitr; · iexact Hlev
    isplitl [HF] <;> iassumption
  iintro ⟨⟨Hs, Ha1⟩, Hz, HO⟩
  iapply (wp_load 𝒱₀ (c : Thread nD τ) none Set.univ (m := xsM) (Finset.subset_univ _)) $$ Hs; iintro Hs
  have hrs : xsM.view.readAt (Elt F) (Rect.unit (s := S512x1024) ![0, 0] S512x1024.size i0).toLoadRect (Xcol m c j) = Xcol m c j :=
    Memref.readAt_unit_zero (Elt F) cc0_scratch0 (show (![0, 0] : Fin 2 → ℕ) = fun _ => 0 by decide) i0 (Xcol m c j)
  rw [hrs]
  have eX : (xbM.access (Rect.unit (s := S512x4096) o2 S512x1024.size i2)).set = xcol j.val :=
    (View.set_slice_whole _ _).trans (rect_xcol j.val o2 h2 i2)
  iapply (wp_load_rect 𝒱₀ (c : Thread nD τ) none Set.univ (m := xbM) (r := Rect.unit (s := S512x4096) o2 S512x1024.size i2) (S := xcol j.val)
    (by rw [eX])) $$ Hx; iintro Hx
  iapply (wp_store 𝒱₀ (c : Thread nD τ) none Set.univ (m := xbM) (r := Rect.unit (s := S512x4096) o2 S512x1024.size i2) (Mk := Finset.univ) (S := xcol j.val)
    (by rw [View.setOn_univ, eX])) $$ Hx; iintro Hx
  have hp := pts_write (F := F) (c := (c : Thread nD τ)) (xbM.access (Rect.unit (s := S512x4096) o2 S512x1024.size i2)) fullShare fx (XB m c)
    (pay (Xcol m c j)) (fun x => by
      have x1 : (x 1).val < 1024 := (x 1).isLt
      rw [racc_xb 0 (1024 * j.val) o2 h2 i2 (XB m c) x (ix2 (n0 := 512) (n1 := 4096) (x 0) ⟨1024 * j.val + (x 1).val, by omega⟩)
        (by show (x 0).val = 0 + _; omega) rfl, hpay]
      show _ = k0_pay1 (Xcol m c ⟨(1024 * j.val + (x 1).val) / 1024, _⟩) (ix2 (n0 := 512) (n1 := 1024) (x 0) ⟨(1024 * j.val + (x 1).val) % 1024, _⟩)
      rw [show (⟨(1024 * j.val + (x 1).val) / 1024, by omega⟩ : Fin 4) = j from Fin.ext (by dsimp only; omega)]
      refine congrArg (k0_pay1 (Xcol m c j)) (funext fun a => ?_)
      match a with
      | ⟨0, _⟩ => rfl
      | ⟨1, _⟩ => exact Fin.ext (show (x 1).val = (1024 * j.val + (x 1).val) % 1024 by omega))
  rw [eX] at hp
  iapply Hk
  isplitl [Hs]; · iexists _; iexact Hs
  isplitl [Hz]; · iexact Hz
  isplitr [Hx HO]
  · iapply (pointsTo_split_subset (Finset.subset_univ _)).2
    isplitl [Ha1] <;> iassumption
  isplitl [Hx]; · ihave Hx := (Entails.of_eq hp) $$ Hx; iexact Hx
  iexact HO

/-! ## The device's own block -/

/-- The own block, moved over. -/
theorem wp_own {sm : DmaSem sig} (hsm : sm = osem)
    {o1 o2 : Fin 3 → ℕ} (h1 : o1 = ![c.val, 0, 0]) (h2 : o2 = ![c.val, 0, 0]) {i1 i2 t1 t2} {q1 q2 : S1x512x1024.Squeezes S512x1024}
    {hsrc : ((ybM.slice (Rect.unit (s := S8x512x1024) o1 S1x512x1024.size i1) t1).squeeze S512x1024 q1).view.WordExact}
    {hdst : ((ybrM.slice (Rect.unit (s := S8x512x1024) o2 S1x512x1024.size i2) t2).squeeze S512x1024 q2).view.WordExact}
    {hsem : DmaTarget.Typed (nD := nD) .vmem (.dma sm) (.here ((ybrM.slice (Rect.unit (s := S8x512x1024) o2 S1x512x1024.size i2) t2).squeeze S512x1024 q2) : DmaTarget nD τ sig .tc .vmem S512x1024 .bf16)}
    {Q : PUnit → sProp 𝕄} {kk : PUnit → Prog (TpuEff nD τ sig (Elt F) Λ₀ .tc) PUnit} :
    iprop(((c : Thread nD τ).loc cc0_scratch3 ↦[slot c.val]{fullShare} YB m c) ∗ (∃ f, (c : Thread nD τ).loc cc0_scratch4 ↦[slot c.val]{fullShare} f)
        ∗ semVal ((c : Thread nD τ), .dma osem) 0)
      ⊢ iprop((Transfers.Flight EC (c : Thread nD τ) (.dma osem) () NC iprop(((c : Thread nD τ).loc cc0_scratch4 ↦[slot c.val]{fullShare} YBR m c)
            ∗ ((c : Thread nD τ).loc cc0_scratch3 ↦[slot c.val]{fullShare} YB m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma ((ybM.slice (Rect.unit (s := S8x512x1024) o1 S1x512x1024.size i1) t1).squeeze S512x1024 q1)
              (.here ((ybrM.slice (Rect.unit (s := S8x512x1024) o2 S1x512x1024.size i2) t2).squeeze S512x1024 q2)) (.dma sm) hsrc hdst hsem) kk) Q) := by
  subst hsm
  iintro ⟨Hy, ⟨%fd, Hd⟩, Hz⟩ Hk
  have e1 := set_yb c.val o1 h1 i1 t1 q1
  have e2 := set_ybr c.val o2 h2 i2 t2 q2
  have hp2 := pts_write (F := F) (c := (c : Thread nD τ))
      ((ybrM.slice (Rect.unit (s := S8x512x1024) o2 S1x512x1024.size i2) t2).squeeze S512x1024 q2).view fullShare fd (YBR m c)
      (((ybM.slice (Rect.unit (s := S8x512x1024) o1 S1x512x1024.size i1) t1).squeeze S512x1024 q1).view.read (Elt F) (YB m c))
      (fun x => (read_yb c o1 h1 i1 t1 q1 (YB m c) x).trans (read_ybr c o2 h2 i2 t2 q2 (YBR m c) x).symm)
  have hN : ((ybrM.slice (Rect.unit (s := S8x512x1024) o2 S1x512x1024.size i2) t2).squeeze S512x1024 q2 : Memref sig .tc .vmem S512x1024 .bf16).view.amount (.dma osem) = NC := rfl
  iapply (Transfers.wp_dmaLocal EC 𝒱₀ (c : Thread nD τ) none
    (src := (ybM.slice (Rect.unit (s := S8x512x1024) o1 S1x512x1024.size i1) t1).squeeze S512x1024 q1)
    (dst := (ybrM.slice (Rect.unit (s := S8x512x1024) o2 S1x512x1024.size i2) t2).squeeze S512x1024 q2)
    (via := .same) (hsrc := hsrc) (hdst := hdst) (hsem := hsem) (fs := YB m c) (fd := fd)
    (Sd := ((ybrM.slice (Rect.unit (s := S8x512x1024) o2 S1x512x1024.size i2) t2).squeeze S512x1024 q2).view.set)
    () NC hN NC_pos (Finset.Subset.refl _)) $$ [Hy Hd Hz]
  · isplitl [Hy]; · rw [e1]; iexact Hy
    isplitl [Hd]; · rw [e2]; iexact Hd
    iexact Hz
  rw [show (ReadAs.same : ReadAs (Elt F) S512x1024 .bf16 S512x1024 .bf16).apply (((ybM.slice (Rect.unit (s := S8x512x1024) o1 S1x512x1024.size i1) t1).squeeze S512x1024 q1).view.read (Elt F) (YB m c))
    = ((ybM.slice (Rect.unit (s := S8x512x1024) o1 S1x512x1024.size i1) t1).squeeze S512x1024 q1).view.read (Elt F) (YB m c) from rfl, hp2, e2, e1]
  iintro HF
  iapply Hk
  iexact HF

/-! ## The row of maxima, and the result's row blocks -/

/-- The device's row of maxima is filled. -/
theorem wp_amstore {o : Fin 3 → ℕ} (ho : o = ![c.val, 0, 0]) {i0}
    {hl : amM.view.LoadsAt (Rect.unit (s := S8x8x128) o S1x8x128.size i0).toLoadRect} {w : FVec F S1x8x128 .f32} (hw : ∀ x, w x = mx m c 15)
    {hx : (amM.access (Rect.unit (s := S8x8x128) o S1x8x128.size i0)).Stores Finset.univ} {hm}
    {Q : PUnit → sProp 𝕄} {kk : PUnit → Prog (TpuEff nD τ sig (Elt F) Λ₀ .tc) PUnit} :
    iprop(∃ f, (c : Thread nD τ).loc cc0_scratch5 ↦[mslot c.val]{fullShare} f)
      ⊢ iprop((((c : Thread nD τ).loc cc0_scratch5 ↦[mslot c.val]{fullShare} AM m) -∗ wp frame (wpE (defs₀ (F := F)) 𝒱₀ (c : Thread nD τ) none) Set.univ (kk ⟨⟩) Q)
          -∗ wp frame (wpE (defs₀ (F := F)) 𝒱₀ (c : Thread nD τ) none) Set.univ (.op (.load amM (Rect.unit (s := S8x8x128) o S1x8x128.size i0).toLoadRect hl) fun _ =>
              .op (.store amM (Rect.unit (s := S8x8x128) o S1x8x128.size i0) w Finset.univ hx hm) kk) Q) := by
  iintro ⟨%f, Ha⟩ Hk
  have e1 : (amM.access (Rect.unit (s := S8x8x128) o S1x8x128.size i0)).set = mslot c.val :=
    (View.set_slice_whole _ _).trans (rect_mslot c.val o ho i0)
  iapply (wp_load_rect 𝒱₀ (c : Thread nD τ) none Set.univ (m := amM) (r := Rect.unit (s := S8x8x128) o S1x8x128.size i0) (S := mslot c.val)
    (by rw [e1])) $$ Ha; iintro Ha
  iapply (wp_store 𝒱₀ (c : Thread nD τ) none Set.univ (m := amM) (r := Rect.unit (s := S8x8x128) o S1x8x128.size i0) (Mk := Finset.univ) (S := mslot c.val)
    (by rw [View.setOn_univ, e1])) $$ Ha; iintro Ha
  have hp := pts_write (F := F) (c := (c : Thread nD τ)) (amM.access (Rect.unit (s := S8x8x128) o S1x8x128.size i0)) fullShare f (AM m) w (fun x => by
    have x0 : (x 0).val < 1 := (x 0).isLt
    rw [racc_am c.val 0 0 o ho i0 (AM m) x (ix3 (n0 := 8) (n1 := 8) (n2 := 128) c (x 1) (x 2)) (by show c.val = c.val + _; omega)
      (by show (x 1).val = 0 + _; omega) (by show (x 2).val = 0 + _; omega), hw]
    rfl)
  rw [e1] at hp
  iapply Hk
  ihave Ha := (Entails.of_eq hp) $$ Ha
  iexact Ha

/-- A row block of the result: the received block is loaded, quantised and stored. -/
theorem wp_qd (s : Dev nD) {o : Fin 3 → ℕ} (ho : o = ![s.val, 0, 0]) {i0}
    {hl : ybrM.view.LoadsAt (Rect.unit (s := S8x512x1024) o S1x512x1024.size i0).toLoadRect}
    {oo : Fin 2 → ℕ} (hoo : oo = ![512 * s.val, 0]) {i1}
    {hl' : oM.view.LoadsAt (Rect.unit (s := S4096x1024) oo S512x1024.size i1).toLoadRect}
    {pay : Vec F S1x512x1024 .bf16 → FVec F S512x1024 .bf16} (hpay : ∀ v, pay v = k0_pay63 (k0_pay59 (AM m)) (k0_pay60 (AM m)) v)
    {hx : (oM.access (Rect.unit (s := S4096x1024) oo S512x1024.size i1)).Stores Finset.univ} {hm}
    {Q : PUnit → sProp 𝕄} {kk : PUnit → Prog (TpuEff nD τ sig (Elt F) Λ₀ .tc) PUnit} :
    iprop(((c : Thread nD τ).loc cc0_scratch4 ↦[slot s.val]{fullShare} YBR m c) ∗ (∃ f, (c : Thread nD τ).loc cc0_stg0_0 ↦[orow s.val]{fullShare} f))
      ⊢ iprop(((((c : Thread nD τ).loc cc0_scratch4 ↦[slot s.val]{fullShare} YBR m c) ∗ ((c : Thread nD τ).loc cc0_stg0_0 ↦[orow s.val]{fullShare} OUT m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.load ybrM (Rect.unit (s := S8x512x1024) o S1x512x1024.size i0).toLoadRect hl) fun v =>
              .op (.load oM (Rect.unit (s := S4096x1024) oo S512x1024.size i1).toLoadRect hl') fun _ =>
              .op (.store oM (Rect.unit (s := S4096x1024) oo S512x1024.size i1) (pay v) Finset.univ hx hm) kk) Q) := by
  iintro ⟨Hy, ⟨%f, Ho⟩⟩ Hk
  have s8 : s.val < 8 := s.isLt
  have e1 : (ybrM.access (Rect.unit (s := S8x512x1024) o S1x512x1024.size i0)).set = slot s.val :=
    (View.set_slice_whole _ _).trans (rect_slot s.val o ho i0)
  have e2 : (oM.access (Rect.unit (s := S4096x1024) oo S512x1024.size i1)).set = orow s.val :=
    (View.set_slice_whole _ _).trans (rect_orow s.val oo hoo i1)
  iapply (wp_load_rect 𝒱₀ (c : Thread nD τ) none Set.univ (m := ybrM) (r := Rect.unit (s := S8x512x1024) o S1x512x1024.size i0) (S := slot s.val)
    (by rw [e1])) $$ Hy; iintro Hy
  iapply (wp_load_rect 𝒱₀ (c : Thread nD τ) none Set.univ (m := oM) (r := Rect.unit (s := S4096x1024) oo S512x1024.size i1) (S := orow s.val)
    (by rw [e2])) $$ Ho; iintro Ho
  iapply (wp_store 𝒱₀ (c : Thread nD τ) none Set.univ (m := oM) (r := Rect.unit (s := S4096x1024) oo S512x1024.size i1) (Mk := Finset.univ) (S := orow s.val)
    (by rw [View.setOn_univ, e2])) $$ Ho; iintro Ho
  have hr : (ybrM.access (Rect.unit (s := S8x512x1024) o S1x512x1024.size i0)).read (Elt F) (YBR m c)
      = fun y => YBR m c (ix3 (n0 := 8) (n1 := 512) (n2 := 1024) s (y 1) (y 2)) := by
    funext x
    have x0 : (x 0).val < 1 := (x 0).isLt
    exact racc_ybr s.val 0 0 o ho i0 (YBR m c) x (ix3 (n0 := 8) (n1 := 512) (n2 := 1024) s (x 1) (x 2)) (by show s.val = s.val + _; omega)
      (by show (x 1).val = 0 + _; omega) (by show (x 2).val = 0 + _; omega)
  have hp := pts_write (F := F) (c := (c : Thread nD τ)) (oM.access (Rect.unit (s := S4096x1024) oo S512x1024.size i1)) fullShare f (OUT m c)
    (pay ((ybrM.access (Rect.unit (s := S8x512x1024) o S1x512x1024.size i0)).read (Elt F) (YBR m c))) (fun x => by
    have x0 : (x 0).val < 512 := (x 0).isLt
    rw [racc_o (512 * s.val) 0 oo hoo i1 (OUT m c) x (ix2 (n0 := 4096) (n1 := 1024) ⟨512 * s.val + (x 0).val, by omega⟩ (x 1)) rfl
      (by show (x 1).val = 0 + _; omega), hpay, hr]
    show _ = k0_pay63 (k0_pay59 (AM m)) (k0_pay60 (AM m))
      (fun y => YBR m c (ix3 (n0 := 8) (n1 := 512) (n2 := 1024) ⟨(512 * s.val + (x 0).val) / 512, _⟩ (y 1) (y 2)))
      (ix2 (n0 := 512) (n1 := 1024) ⟨(512 * s.val + (x 0).val) % 512, _⟩ (x 1))
    rw [show (⟨(512 * s.val + (x 0).val) / 512, by omega⟩ : Fin 8) = s from Fin.ext (by dsimp only; omega)]
    refine congrArg (k0_pay63 (k0_pay59 (AM m)) (k0_pay60 (AM m)) _) (funext fun a => ?_)
    match a with
    | ⟨0, _⟩ => exact Fin.ext (show (x 0).val = (512 * s.val + (x 0).val) % 512 by omega)
    | ⟨1, _⟩ => rfl)
  rw [e2] at hp
  iapply Hk
  isplitl [Hy]; · iexact Hy
  ihave Ho := (Entails.of_eq hp) $$ Ho
  iexact Ho

end Local

end Cert.Qdq
end
-- ==== Proof.Phases.lean ====
/-
The kernel's phases, each a loop over like steps: the entry barrier, the copies in flight, the sixteen chunks of the product, the
exchange of the maxima, the row blocks of the result. Each is proved once for a symbolic device and a symbolic step.
-/
module

public import proofs.«01_k».proof.Proof.Local

@[expose] public section

set_option maxRecDepth 16384

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)
/-- What every step may use: the protocol's invariants and the levels. -/
abbrev per (K : Dev nD × KIx → ℕ) : sProp 𝕄 := iprop(invs m K ∗ levAts L lv)

section Phases
variable (K : Dev nD × KIx → ℕ) (c : Dev nD)

/-! ## The entry barrier -/

/-- After `i` signals. -/
def sSig (i : ℕ) : sProp 𝕄 := iprop(per m K ∗ stage (sigA c) nothing i ∗ owe c (Ow c i 0 0))

/-- A signal of the entry barrier. -/
theorem ph_sig (r : Fin 7) {i j : ℕ} (hi : r.val = i) (hj : r.val + 1 = j) (n : Dev nD) (hn : n = rot c (r.val + 1)) {kk : ℤ} (hkk : ((1 : ℕ) : ℤ) = kk)
    {Q : PUnit → sProp 𝕄} {k : PUnit → Prog (TpuEff nD τ sig (Elt F) Λ₀ .tc) PUnit} :
    sSig m K c i ⊢ iprop((sSig m K c j -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc n : Thread nD τ) barS kk) k) Q) := by
  subst hi hj
  unfold sSig
  iintro ⟨⟨#HI, #Hl⟩, Hst, HO⟩ Hk
  iapply (wp_sig m K c r n hn hkk) $$ [Hst HO]
  · isplitr; · iexact HI
    isplitl [Hst] <;> iassumption
  iintro ⟨Hst, HO⟩
  iapply Hk
  isplitr; · isplitr <;> iassumption
  isplitl [Hst] <;> iassumption

/-! ## The left operand -/

abbrev xA (c : Dev nD) (j : Fin 4) : sProp 𝕄 := iprop(∃ f, (c : Thread nD τ).loc cc0_scratch1 ↦[xcol j.val]{fullShare} f)
abbrev xB (c : Dev nD) (j : Fin 4) : sProp 𝕄 := (c : Thread nD τ).loc cc0_scratch1 ↦[xcol j.val]{fullShare} XB m c

/-- With `j` of its column blocks narrowed. -/
def sX (j : ℕ) : sProp 𝕄 :=
  iprop(per m K ∗ (∃ f, (c : Thread nD τ).loc cc0_scratch0 ↦[Finset.univ]{fullShare} f) ∗ semVal ((c : Thread nD τ), .dma xsem) 0
    ∗ ((c : Thread nD τ).loc main_arg0 ↦[Finset.univ]{fullShare} X m c) ∗ stage (xA c) (xB m c) j ∗ owe c (Ow c 7 0 0))

/-- A column block of the left operand, copied in and narrowed. -/
theorem ph_x (j : Fin 4) {a b : ℕ} (ha : j.val = a) (hb : j.val + 1 = b) {sm : DmaSem sig} (hsm : sm = xsem)
    {o1 : Fin 2 → ℕ} (h1 : o1 = ![0, 1024 * j.val]) {i1 t1 i0}
    {o2 : Fin 2 → ℕ} (h2 : o2 = ![0, 1024 * j.val]) {i2}
    {hsrc : (xM.slice (Rect.unit (s := S512x4096) o1 S512x1024.size i1) t1).view.WordExact} {hdst : xsM.view.WordExact}
    {hsem : DmaTarget.Typed (nD := nD) .hbm (.dma sm) (.here xsM : DmaTarget nD τ sig .tc .vmem S512x1024 .f32)}
    {sp' : Space} {sh' : Shape} {e' : EltTy} {srcw : Memref sig .tc sp' sh' e'} {hsrc' : srcw.view.WordExact} {hdst' : xsM.view.WordExact}
    {hl1 : xsM.view.LoadsAt (Rect.unit (s := S512x1024) ![0, 0] S512x1024.size i0).toLoadRect}
    {hl2 : xbM.view.LoadsAt (Rect.unit (s := S512x4096) o2 S512x1024.size i2).toLoadRect}
    {pay : Vec F S512x1024 .f32 → FVec F S512x1024 .bf16} (hpay : ∀ v, pay v = k0_pay1 v)
    {hx : (xbM.access (Rect.unit (s := S512x4096) o2 S512x1024.size i2)).Stores Finset.univ} {hm}
    {Q : PUnit → sProp 𝕄} {kk : PUnit → Prog (TpuEff nD τ sig (Elt F) Λ₀ .tc) PUnit} :
    sX m K c a ⊢ iprop((sX m K c b -∗ wp frame (wpE (defs₀ (F := F)) 𝒱₀ (c : Thread nD τ) none) Set.univ (kk ⟨⟩) Q) -∗ wp frame (wpE (defs₀ (F := F)) 𝒱₀ (c : Thread nD τ) none) Set.univ (.op (.enqueueDma (xM.slice (Rect.unit (s := S512x4096) o1 S512x1024.size i1) t1) (.here xsM) (.dma sm) hsrc hdst hsem) fun _ =>
              .op (.waitDma2 sm srcw xsM hsrc' hdst') fun _ =>
              .op (.load xsM (Rect.unit (s := S512x1024) ![0, 0] S512x1024.size i0).toLoadRect hl1) fun v =>
              .op (.load xbM (Rect.unit (s := S512x4096) o2 S512x1024.size i2).toLoadRect hl2) fun _ =>
              .op (.store xbM (Rect.unit (s := S512x4096) o2 S512x1024.size i2) (pay v) Finset.univ hx hm) kk) Q) := by
  subst ha hb
  unfold sX
  iintro ⟨⟨#HI, #Hl⟩, Hs, Hz, Ha, Hst, HO⟩ Hk
  ihave ⟨Hx, Hback⟩ := (stage_step (xA c) (xB m c) j) $$ Hst
  iapply (wp_xstage m c j 7 0 0 hsm h1 h2 hpay) $$ [Hs Hz Ha Hx HO]
  · isplitr; · iexact Hl
    isplitl [Hs]; · iexact Hs
    isplitl [Hz]; · iexact Hz
    isplitl [Ha]; · iexact Ha
    isplitl [Hx] <;> iassumption
  iintro ⟨Hs, Hz, Ha, Hx, HO⟩
  iapply Hk
  isplitr; · isplitr <;> iassumption
  isplitl [Hs]; · iexact Hs
  isplitl [Hz]; · iexact Hz
  isplitl [Ha]; · iexact Ha
  isplitr [HO]; · iapply Hback; iexact Hx
  iexact HO

/-! ## The chunks of the product -/

set_option backward.proofsInPublic true in
/-- The slot chunk `j` goes through, and the column half it is. -/
def kj (j : ℕ) : Fin 3 := ⟨j % 3, Nat.mod_lt _ (by decide)⟩
set_option backward.proofsInPublic true in
def hj (j : ℕ) : Fin 2 := ⟨j % 2, Nat.mod_lt _ (by decide)⟩
def sj (c : Dev nD) (j : ℕ) : Dev nD := rot c (j / 2 + 1)
theorem kj_add (j : ℕ) : kj (j + 3) = kj j := Fin.ext (show (j + 3) % 3 = j % 3 by omega)

abbrev wFlyJ (j : ℕ) : sProp 𝕄 := wFly m c (kj j) (sj c j) (hj j)
abbrev wFreeJ (j : ℕ) : sProp 𝕄 := wFree m c (kj j)
abbrev yA (c : Dev nD) (j : Fin 16) : sProp 𝕄 := iprop(∃ f, (c : Thread nD τ).loc cc0_scratch3 ↦[half (sj c j.val).val (hj j.val).val]{fullShare} f)
abbrev yPt (j : ℕ) : sProp 𝕄 := (c : Thread nD τ).loc cc0_scratch3 ↦[half (sj c j).val (hj j).val]{fullShare} YB m c

/-- With `j` chunks done and `r` blocks sent. -/
def sCh (j r : ℕ) : sProp 𝕄 :=
  iprop(per m K ∗ (wFlyJ m c j ∗ wFlyJ m c (j + 1) ∗ wFreeJ m c (j + 2)) ∗ ((c : Thread nD τ).loc cc0_scratch1 ↦[Finset.univ]{fullShare} XB m c)
    ∗ stage (yA c) nothing j ∗ stage (chA c) (chB c) r ∗ owe c (Ow c 7 r 0))

/-- A chunk of the weights, set going. -/
theorem ph_start (j : ℕ) {k : Fin 3} (hk : k = kj j) {sm : DmaSem sig} (hsm : sm = wsem (kj j))
    {o1 : Fin 2 → ℕ} (h1 : o1 = ![0, 1024 * (sj c j).val + 512 * (hj j).val]) {o2 : Fin 3 → ℕ} (h2 : o2 = ![(kj j).val, 0, 0]) {i1 i2 t1 t2} {q2 : S1x4096x512.Squeezes S4096x512}
    {hsrc : (wM.slice (Rect.unit (s := S4096x8192) o1 S4096x512.size i1) t1).view.WordExact}
    {hdst : ((wbM.slice (Rect.unit (s := S3x4096x512) o2 S1x4096x512.size i2) t2).squeeze S4096x512 q2).view.WordExact}
    {hsem : DmaTarget.Typed (nD := nD) .hbm (.dma sm) (.here ((wbM.slice (Rect.unit (s := S3x4096x512) o2 S1x4096x512.size i2) t2).squeeze S4096x512 q2) : DmaTarget nD τ sig .tc .vmem S4096x512 .f32)}
    {Q : PUnit → sProp 𝕄} {kk : PUnit → Prog (TpuEff nD τ sig (Elt F) Λ₀ .tc) PUnit} :
    wFree m c k ⊢ iprop((wFlyJ m c j -∗ wp frame (wpE (defs₀ (F := F)) 𝒱₀ (c : Thread nD τ) none) Set.univ (kk ⟨⟩) Q) -∗ wp frame (wpE (defs₀ (F := F)) 𝒱₀ (c : Thread nD τ) none) Set.univ (.op (.enqueueDma (wM.slice (Rect.unit (s := S4096x8192) o1 S4096x512.size i1) t1)
              (.here ((wbM.slice (Rect.unit (s := S3x4096x512) o2 S1x4096x512.size i2) t2).squeeze S4096x512 q2)) (.dma sm) hsrc hdst hsem) kk) Q) := by
  subst hk
  exact wp_wstart m c (kj j) (sj c j) (hj j) hsm h1 h2

/-- Chunk `j` while chunk `j + 2` is on its way. -/
theorem ph_chunk (j : Fin 16) (r : ℕ) {a b : ℕ} (ha : j.val = a) (hb : j.val + 1 = b) {sm' : DmaSem sig} (hsm' : sm' = wsem (kj (j.val + 2)))
    {o1 : Fin 2 → ℕ} (h1 : o1 = ![0, 1024 * (sj c (j.val + 2)).val + 512 * (hj (j.val + 2)).val]) {o2 : Fin 3 → ℕ} (h2 : o2 = ![(kj (j.val + 2)).val, 0, 0]) {i1 i2 t1 t2} {q2 : S1x4096x512.Squeezes S4096x512}
    {hsrc' : (wM.slice (Rect.unit (s := S4096x8192) o1 S4096x512.size i1) t1).view.WordExact}
    {hdst' : ((wbM.slice (Rect.unit (s := S3x4096x512) o2 S1x4096x512.size i2) t2).squeeze S4096x512 q2).view.WordExact}
    {hsem : DmaTarget.Typed (nD := nD) .hbm (.dma sm') (.here ((wbM.slice (Rect.unit (s := S3x4096x512) o2 S1x4096x512.size i2) t2).squeeze S4096x512 q2) : DmaTarget nD τ sig .tc .vmem S4096x512 .f32)}
    {sm : DmaSem sig} (hsm : sm = wsem (kj j.val))
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = NW) {iX} {oW : Fin 3 → ℕ} (hW : oW = ![(kj j.val).val, 0, 0]) {iW} {oY : Fin 3 → ℕ} (hY : oY = ![(sj c j.val).val, 0, 512 * (hj j.val).val]) {iY}
    {hl1 : xbM.view.LoadsAt (Rect.unit (s := S512x4096) ![0, 0] S512x4096.size iX).toLoadRect}
    {hl2 : wbM.view.LoadsAt (Rect.unit (s := S3x4096x512) oW S1x4096x512.size iW).toLoadRect}
    {hl3 : ybM.view.LoadsAt (Rect.unit (s := S8x512x1024) oY S1x512x512.size iY).toLoadRect}
    {pay : Vec F S512x4096 .bf16 → Vec F S1x4096x512 .f32 → FVec F S1x512x512 .bf16} (hpay : ∀ v w, pay v w = k0_pay9 v w)
    {hx : (ybM.access (Rect.unit (s := S8x512x1024) oY S1x512x512.size iY)).Stores Finset.univ} {hm}
    {Q : PUnit → sProp 𝕄} {kk : Vec F S512x4096 .bf16 → Vec F S1x4096x512 .f32 → Prog (TpuEff nD τ sig (Elt F) Λ₀ .tc) PUnit} :
    sCh m K c a r ⊢ iprop(((sCh m K c b r ∗ yPt m c a) -∗ wp frame (wpE (defs₀ (F := F)) 𝒱₀ (c : Thread nD τ) none) Set.univ (kk (XB m c) (Wj m c a)) Q) -∗ wp frame (wpE (defs₀ (F := F)) 𝒱₀ (c : Thread nD τ) none) Set.univ (.op (.enqueueDma (wM.slice (Rect.unit (s := S4096x8192) o1 S4096x512.size i1) t1)
              (.here ((wbM.slice (Rect.unit (s := S3x4096x512) o2 S1x4096x512.size i2) t2).squeeze S4096x512 q2)) (.dma sm') hsrc' hdst' hsem) fun _ =>
              .op (.waitDma2 sm srcw dstw hsrc hdst) fun _ =>
              .op (.load xbM (Rect.unit (s := S512x4096) ![0, 0] S512x4096.size iX).toLoadRect hl1) fun v =>
              .op (.load wbM (Rect.unit (s := S3x4096x512) oW S1x4096x512.size iW).toLoadRect hl2) fun w =>
              .op (.load ybM (Rect.unit (s := S8x512x1024) oY S1x512x512.size iY).toLoadRect hl3) fun _ =>
              .op (.store ybM (Rect.unit (s := S8x512x1024) oY S1x512x512.size iY) (pay v w) Finset.univ hx hm) fun _ => kk v w) Q) := by
  subst ha hb
  unfold sCh
  iintro ⟨⟨#HI, #Hl⟩, ⟨Hf0, Hf1, Hf2⟩, Hx, Hst, Hch, HO⟩ Hk
  iapply (ph_start m c (j.val + 2) rfl hsm' h1 h2) $$ Hf2; iintro Hf2
  ihave ⟨Hy, Hback⟩ := (stage_step (yA c) nothing j) $$ Hst
  iapply (wp_mm m c (kj j.val) (sj c j.val) (hj j.val) 7 r 0 hsm hN hW hY hpay) $$ [Hf0 Hx Hy HO]
  · isplitr; · iexact Hl
    isplitl [Hf0]; · iexact Hf0
    isplitl [Hx]; · iexact Hx
    isplitl [Hy] <;> iassumption
  iintro ⟨Hf0, Hx, Hy, HO⟩
  iapply Hk
  isplitr [Hy]
  · isplitr; · isplitr <;> iassumption
    isplitl [Hf0 Hf1 Hf2]
    · isplitl [Hf1]; · iexact Hf1
      isplitl [Hf2]; · iexact Hf2
      unfold wFreeJ; rw [kj_add]; iexact Hf0
    isplitl [Hx]; · iexact Hx
    isplitl [Hback]; · iapply Hback; iempintro
    isplitl [Hch] <;> iassumption
  iexact Hy

/-- One of the last two chunks. -/
theorem ph_last (j : ℕ) {sm : DmaSem sig} (hsm : sm = wsem (kj j))
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = NW) {iX} {oW : Fin 3 → ℕ} (hW : oW = ![(kj j).val, 0, 0]) {iW} {oY : Fin 3 → ℕ} (hY : oY = ![(sj c j).val, 0, 512 * (hj j).val]) {iY}
    {hl1 : xbM.view.LoadsAt (Rect.unit (s := S512x4096) ![0, 0] S512x4096.size iX).toLoadRect}
    {hl2 : wbM.view.LoadsAt (Rect.unit (s := S3x4096x512) oW S1x4096x512.size iW).toLoadRect}
    {hl3 : ybM.view.LoadsAt (Rect.unit (s := S8x512x1024) oY S1x512x512.size iY).toLoadRect}
    {pay : Vec F S512x4096 .bf16 → Vec F S1x4096x512 .f32 → FVec F S1x512x512 .bf16} (hpay : ∀ v w, pay v w = k0_pay9 v w)
    {hx : (ybM.access (Rect.unit (s := S8x512x1024) oY S1x512x512.size iY)).Stores Finset.univ} {hm}
    {Q : PUnit → sProp 𝕄} {kk : Vec F S512x4096 .bf16 → Vec F S1x4096x512 .f32 → Prog (TpuEff nD τ sig (Elt F) Λ₀ .tc) PUnit} :
    iprop(levAts L lv ∗ wFlyJ m c j ∗ ((c : Thread nD τ).loc cc0_scratch1 ↦[Finset.univ]{fullShare} XB m c)
        ∗ (∃ f, (c : Thread nD τ).loc cc0_scratch3 ↦[half (sj c j).val (hj j).val]{fullShare} f) ∗ owe c (Ow c 7 7 0))
      ⊢ iprop(((wFreeJ m c j ∗ ((c : Thread nD τ).loc cc0_scratch1 ↦[Finset.univ]{fullShare} XB m c) ∗ yPt m c j ∗ owe c (Ow c 7 7 0))
            -∗ wp frame (wpE (defs₀ (F := F)) 𝒱₀ (c : Thread nD τ) none) Set.univ (kk (XB m c) (Wj m c j)) Q) -∗ wp frame (wpE (defs₀ (F := F)) 𝒱₀ (c : Thread nD τ) none) Set.univ (.op (.waitDma2 sm srcw dstw hsrc hdst) fun _ =>
              .op (.load xbM (Rect.unit (s := S512x4096) ![0, 0] S512x4096.size iX).toLoadRect hl1) fun v =>
              .op (.load wbM (Rect.unit (s := S3x4096x512) oW S1x4096x512.size iW).toLoadRect hl2) fun w =>
              .op (.load ybM (Rect.unit (s := S8x512x1024) oY S1x512x512.size iY).toLoadRect hl3) fun _ =>
              .op (.store ybM (Rect.unit (s := S8x512x1024) oY S1x512x512.size iY) (pay v w) Finset.univ hx hm) fun _ => kk v w) Q) :=
  wp_mm m c (kj j) (sj c j) (hj j) 7 7 0 hsm hN hW hY hpay

/-- A row block is its two column halves. -/
theorem slot_halves (s : ℕ) : slot s = half s 0 ∪ half s 1 := by
  ext i
  have h2 : (i 2).val < 1024 := (i 2).isLt
  simp only [slot, half, Finset.mem_union, Finset.mem_filter, Finset.mem_univ, true_and]; omega
/-- The two halves of a block are disjoint. -/
theorem halves_disjoint (s : ℕ) : Disjoint (half s 0) (half s 1) :=
  Finset.disjoint_left.mpr fun i h h' => by
    have h1 := (Finset.mem_filter.mp h).2.2
    have h2 := (Finset.mem_filter.mp h').2.2
    omega

/-- The two halves of a block are the block. -/
theorem y_join (r : ℕ) {a b : ℕ} (ha : 2 * r = a) (hb : 2 * r + 1 = b) :
    iprop(yPt m c a ∗ yPt m c b) ⊢ ((c : Thread nD τ).loc cc0_scratch3 ↦[slot (rot c (r + 1)).val]{fullShare} YB m c) := by
  subst ha hb
  rw [slot_halves]
  have e1 : sj c (2 * r) = rot c (r + 1) := by unfold sj; rw [show 2 * r / 2 = r by omega]
  have e2 : sj c (2 * r + 1) = rot c (r + 1) := by unfold sj; rw [show (2 * r + 1) / 2 = r by omega]
  have e3 : (hj (2 * r)).val = 0 := show 2 * r % 2 = 0 by omega
  have e4 : (hj (2 * r + 1)).val = 1 := show (2 * r + 1) % 2 = 1 by omega
  unfold yPt
  rw [e1, e2, e3, e4]
  exact (pointsTo_union (halves_disjoint _)).2

/-- Block `r` is sent. -/
theorem ph_chsend (r : Fin 7) (j : ℕ) {a b : ℕ} (ha : r.val = a) (hb : r.val + 1 = b) {y0 y1 : ℕ} (hy0 : 2 * r.val = y0) (hy1 : 2 * r.val + 1 = y1)
    (n : Dev nD) (hn : n = rot c (r.val + 1)) {sS sR : DmaSem sig} (hS : sS = dsem 2 r.succ) (hR : sR = dsem 3 c)
    {o1 o2 : Fin 3 → ℕ} (h1 : o1 = ![(rot c (r.val + 1)).val, 0, 0]) (h2 : o2 = ![c.val, 0, 0]) {i1 i2 t1 t2} {q1 q2 : S1x512x1024.Squeezes S512x1024}
    {hsc : ((ybrM.slice (Rect.unit (s := S8x512x1024) o2 S1x512x1024.size i2) t2).squeeze S512x1024 q2 : Memref sig (Dev.tc n : Thread nD τ).2.kind .vmem S512x1024 .bf16).view.ref.isScScratch = false}
    {hsrc : ((ybM.slice (Rect.unit (s := S8x512x1024) o1 S1x512x1024.size i1) t1).squeeze S512x1024 q1).view.WordExact}
    {hdst : ((ybrM.slice (Rect.unit (s := S8x512x1024) o2 S1x512x1024.size i2) t2).squeeze S512x1024 q2).view.WordExact}
    {hsem : DmaTarget.Typed .vmem (.dma sR) (.remote (Dev.tc n : Thread nD τ) ((ybrM.slice (Rect.unit (s := S8x512x1024) o2 S1x512x1024.size i2) t2).squeeze S512x1024 q2 : Memref sig (Dev.tc n : Thread nD τ).2.kind .vmem S512x1024 .bf16) (.dma sS) hsc)}
    {Q : PUnit → sProp 𝕄} {k : PUnit → Prog (TpuEff nD τ sig (Elt F) Λ₀ .tc) PUnit} :
    iprop(sCh m K c j a ∗ yPt m c y0 ∗ yPt m c y1)
      ⊢ iprop((sCh m K c j b -∗ wp frame (wpE (defs₀ (F := F)) 𝒱₀ (c : Thread nD τ) none) Set.univ (k ⟨⟩) Q) -∗ wp frame (wpE (defs₀ (F := F)) 𝒱₀ (c : Thread nD τ) none) Set.univ (.op (.enqueueDma ((ybM.slice (Rect.unit (s := S8x512x1024) o1 S1x512x1024.size i1) t1).squeeze S512x1024 q1)
              (.remote (Dev.tc n : Thread nD τ) ((ybrM.slice (Rect.unit (s := S8x512x1024) o2 S1x512x1024.size i2) t2).squeeze S512x1024 q2) (.dma sS) hsc) (.dma sR) hsrc hdst hsem) k) Q) := by
  subst ha hb
  unfold sCh
  iintro ⟨⟨⟨#HI, #Hl⟩, Hf, Hx, Hst, Hch, HO⟩, Hy⟩ Hk
  ihave Hy := (y_join m c r.val hy0 hy1) $$ Hy
  iapply (wp_chsend m K c r n hn hS hR h1 h2) $$ [Hch Hy HO]
  · isplitr; · iexact HI
    isplitl [Hch]; · iexact Hch
    isplitl [Hy] <;> iassumption
  iintro ⟨Hch, HO⟩
  iapply Hk
  isplitr; · isplitr <;> iassumption
  isplitl [Hf]; · iexact Hf
  isplitl [Hx]; · iexact Hx
  isplitl [Hst]; · iexact Hst
  isplitl [Hch] <;> iassumption

/-! ## The rows of maxima -/

/-- With `i` rows of maxima sent. -/
def sAm (i : ℕ) : sProp 𝕄 := iprop(per m K ∗ stage (amA m c) (amB c) i ∗ owe c (Ow c 7 7 i))

/-- A row of maxima, sent to a peer. -/
theorem ph_amsend (r : Fin 7) {a b : ℕ} (ha : r.val = a) (hb : r.val + 1 = b) (n : Dev nD) (hn : n = rot c (r.val + 1)) {sS sR : DmaSem sig} (hS : sS = dsem 0 r.succ) (hR : sR = dsem 1 c)
    {o1 o2 : Fin 3 → ℕ} (h1 : o1 = ![c.val, 0, 0]) (h2 : o2 = ![c.val, 0, 0]) {i1 i2 t1 t2} {q1 q2 : S1x8x128.Squeezes S8x128}
    {hsc : ((amM.slice (Rect.unit (s := S8x8x128) o2 S1x8x128.size i2) t2).squeeze S8x128 q2 : Memref sig (Dev.tc n : Thread nD τ).2.kind .vmem S8x128 .f32).view.ref.isScScratch = false}
    {hsrc : ((amM.slice (Rect.unit (s := S8x8x128) o1 S1x8x128.size i1) t1).squeeze S8x128 q1).view.WordExact}
    {hdst : ((amM.slice (Rect.unit (s := S8x8x128) o2 S1x8x128.size i2) t2).squeeze S8x128 q2).view.WordExact}
    {hsem : DmaTarget.Typed .vmem (.dma sR) (.remote (Dev.tc n : Thread nD τ) ((amM.slice (Rect.unit (s := S8x8x128) o2 S1x8x128.size i2) t2).squeeze S8x128 q2 : Memref sig (Dev.tc n : Thread nD τ).2.kind .vmem S8x128 .f32) (.dma sS) hsc)}
    {Q : PUnit → sProp 𝕄} {k : PUnit → Prog (TpuEff nD τ sig (Elt F) Λ₀ .tc) PUnit} :
    sAm m K c a
      ⊢ iprop((sAm m K c b -∗ wp frame (wpE (defs₀ (F := F)) 𝒱₀ (c : Thread nD τ) none) Set.univ (k ⟨⟩) Q) -∗ wp frame (wpE (defs₀ (F := F)) 𝒱₀ (c : Thread nD τ) none) Set.univ (.op (.enqueueDma ((amM.slice (Rect.unit (s := S8x8x128) o1 S1x8x128.size i1) t1).squeeze S8x128 q1)
              (.remote (Dev.tc n : Thread nD τ) ((amM.slice (Rect.unit (s := S8x8x128) o2 S1x8x128.size i2) t2).squeeze S8x128 q2) (.dma sS) hsc) (.dma sR) hsrc hdst hsem) k) Q) := by
  subst ha hb
  unfold sAm
  iintro ⟨⟨#HI, #Hl⟩, Hst, HO⟩ Hk
  iapply (wp_amsend m K c r n hn hS hR h1 h2) $$ [Hst HO]
  · isplitr; · iexact HI
    isplitl [Hst] <;> iassumption
  iintro ⟨Hst, HO⟩
  iapply Hk
  isplitr; · isplitr <;> iassumption
  isplitl [Hst] <;> iassumption

/-! ## The waits -/

/-- With `i` of an array's entries waited for. -/
def sW (a : Fin 4) (ix : Fin 7 → Fin 8) (i : ℕ) : sProp 𝕄 := iprop(per m K ∗ stage (waitA c a ix) (waitB m c a ix) i ∗ owe c 0)

/-- A wait for the end of a copy. -/
theorem ph_wait (ar : Fin 4) (ix : Fin 7 → Fin 8) (r : Fin 7) {a b : ℕ} (ha : r.val = a) (hb : r.val + 1 = b) (hu : used c ar (ix r)) {sem : DmaSem sig} (hsem : sem = dsem ar (ix r))
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = amt ar) {Q : PUnit → sProp 𝕄} {k : PUnit → Prog (TpuEff nD τ sig (Elt F) Λ₀ .tc) PUnit} :
    sW m K c ar ix a ⊢ iprop((sW m K c ar ix b -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sem srcw dstw hsrc hdst) k) Q) := by
  subst ha hb
  unfold sW
  iintro ⟨⟨#HI, #Hl⟩, Hst, HO⟩ Hk
  iapply (wp_waitstage m K c ar ix r hu hsem hN) $$ [Hst HO]
  · isplitr; · iexact HI
    isplitl [Hst] <;> iassumption
  iintro ⟨Hst, HO⟩
  iapply Hk
  isplitr; · isplitr <;> iassumption
  isplitl [Hst] <;> iassumption

/-- The peer at distance `r + 1`. -/
abbrev peer (c : Dev nD) (r : Fin 7) : Fin 8 := rot c (r.val + 1)

/-! ## The received blocks -/

abbrev qA (c : Dev nD) (r : Fin 7) : sProp 𝕄 :=
  iprop(waitA c 3 (peer c) r ∗ ∃ f, (c : Thread nD τ).loc cc0_stg0_0 ↦[orow (peer c r).val]{fullShare} f)
abbrev qB (c : Dev nD) (r : Fin 7) : sProp 𝕄 :=
  iprop(semVal (cell c 3 (peer c r)) 0 ∗ ((c : Thread nD τ).loc cc0_scratch4 ↦[slot (peer c r).val]{fullShare} YBR m c)
    ∗ ((c : Thread nD τ).loc cc0_stg0_0 ↦[orow (peer c r).val]{fullShare} OUT m c))

theorem pay_zero (c : Dev nD) (s : Fin 8) : pay m c 0 s
    = ((c : Thread nD τ).loc cc0_scratch5 ↦[mslot c.val]{Transfers.shareTokN fullShare (s.val - 1)} AM m) := rfl
theorem pay_one (c : Dev nD) (s : Fin 8) : pay m c 1 s = ((c : Thread nD τ).loc cc0_scratch5 ↦[mslot s.val]{fullShare} AM m) := rfl
theorem pay_two (c : Dev nD) (s : Fin 8) : pay m c 2 s = ((c : Thread nD τ).loc cc0_scratch3 ↦[slot (rot c s.val).val]{fullShare} YB m c) := rfl
theorem pay_three (c : Dev nD) (s : Fin 8) : pay m c 3 s = ((c : Thread nD τ).loc cc0_scratch4 ↦[slot s.val]{fullShare} YBR m c) := rfl

/-- With `i` of the received blocks quantised. -/
def sQ (i : ℕ) : sProp 𝕄 := iprop(per m K ∗ stage (qA c) (qB m c) i ∗ owe c 0)

/-- A wait for a peer's block, and the block quantized into the result. -/
theorem ph_recv (r : Fin 7) {a b : ℕ} (ha : r.val = a) (hb : r.val + 1 = b) {sem : DmaSem sig} (hsem : sem = dsem 3 (peer c r))
    {sp sp' : Space} {sh sh' : Shape} {e e' : EltTy} {κ' : Kind}
    {srcw : Memref sig .tc sp' sh' e'} {dstw : Memref sig κ' sp sh e} {hsrc : srcw.view.WordExact} {hdst : dstw.view.WordExact}
    (hN : dstw.view.dmaCredit = amt 3) {o : Fin 3 → ℕ} (ho : o = ![(peer c r).val, 0, 0]) {i0}
    {hl : ybrM.view.LoadsAt (Rect.unit (s := S8x512x1024) o S1x512x1024.size i0).toLoadRect}
    {oo : Fin 2 → ℕ} (hoo : oo = ![512 * (peer c r).val, 0]) {i1}
    {hl' : oM.view.LoadsAt (Rect.unit (s := S4096x1024) oo S512x1024.size i1).toLoadRect}
    {pay : Vec F S1x512x1024 .bf16 → FVec F S512x1024 .bf16} (hpay : ∀ v, pay v = k0_pay63 (k0_pay59 (AM m)) (k0_pay60 (AM m)) v)
    {hx : (oM.access (Rect.unit (s := S4096x1024) oo S512x1024.size i1)).Stores Finset.univ} {hm}
    {Q : PUnit → sProp 𝕄} {kk : PUnit → Prog (TpuEff nD τ sig (Elt F) Λ₀ .tc) PUnit} :
    sQ m K c a ⊢ iprop((sQ m K c b -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 sem srcw dstw hsrc hdst) fun _ =>
              .op (.load ybrM (Rect.unit (s := S8x512x1024) o S1x512x1024.size i0).toLoadRect hl) fun v =>
              .op (.load oM (Rect.unit (s := S4096x1024) oo S512x1024.size i1).toLoadRect hl') fun _ =>
              .op (.store oM (Rect.unit (s := S4096x1024) oo S512x1024.size i1) (pay v) Finset.univ hx hm) kk) Q) := by
  subst ha hb
  unfold sQ
  iintro ⟨⟨#HI, #Hl⟩, Hst, HO⟩ Hk
  ihave ⟨⟨⟨Hc, Hat⟩, Ho⟩, Hback⟩ := (stage_step (qA c) (qB m c) r) $$ Hst
  iapply (wp_cellwait m K c 3 (peer c r) (used_recv 3 rfl c _ (rot_ne_val c r)) hsem hN) $$ [Hc Hat HO]
  · isplitr; · iexact HI
    isplitl [Hc]; · iexact Hc
    isplitl [Hat] <;> iassumption
  iintro ⟨Hp, Hz, HO⟩
  ihave Hp := (Entails.of_eq (pay_three m c (peer c r))) $$ Hp
  iapply (wp_qd m c (peer c r) ho hoo hpay) $$ [Hp Ho]
  · isplitl [Hp]
    · iexact Hp
    iexact Ho
  iintro ⟨Hp, Ho⟩
  iapply Hk
  isplitr; · isplitr <;> iassumption
  isplitr [HO]
  · iapply Hback
    isplitl [Hz]; · iexact Hz
    isplitl [Hp] <;> iassumption
  iexact HO

end Phases

end Cert.Qdq
end
-- ==== Proof.Pieces.lean ====
/-
Taking the buffers apart into the pieces that the steps use, and putting the pieces together again at the end.
-/
module

public import proofs.«01_k».proof.Proof.Phases
public import Idealize.ShloMosaic.Lib.Ring

@[expose] public section

set_option maxRecDepth 16384

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)
omit [FloatOps F] in
theorem assoc_eq (P P' P'' : sProp 𝕄) : iprop((P ∗ P') ∗ P'') = iprop(P ∗ P' ∗ P'') :=
  Idealize.SL.BI.Entails.antisymm
    (show iprop((P ∗ P') ∗ P'') ⊢ iprop(P ∗ P' ∗ P'') from by
        iintro ⟨⟨H1, H2⟩, H3⟩
        isplitl [H1]; · iexact H1
        isplitl [H2] <;> iassumption)
    (show iprop(P ∗ P' ∗ P'') ⊢ iprop((P ∗ P') ∗ P'') from by
        iintro ⟨H1, H2, H3⟩
        isplitr [H3]
        · isplitl [H1] <;> iassumption
        iexact H3)

/-! ## A device and its seven peers -/

set_option backward.proofsInPublic true in
/-- The peers, by distance. -/
def peers (c : Dev nD) : Fin 7 ↪ Fin 8 := ⟨fun r => rot c (r.val + 1), fun r r' h => by
  have h' := congrArg Fin.val h
  have h1 := r.isLt; have h2 := r'.isLt
  have h3 : (c.val + (r.val + 1)) % 8 = (c.val + (r'.val + 1)) % 8 := h'
  have h4 : c.val < 8 := c.isLt
  exact Fin.ext (by omega)⟩

/-- The other devices are the seven peers. -/
theorem erase_peers (c : Dev nD) : (Finset.univ : Finset (Fin 8)).erase c = Finset.univ.map (peers c) := by
  ext s
  rw [Finset.mem_erase, Finset.mem_map]
  constructor
  · rintro ⟨hs, -⟩
    have h1 := s.isLt
    have h4 : c.val < 8 := c.isLt
    have h5 : s.val ≠ c.val := fun h => hs (Fin.ext h)
    refine ⟨⟨(s.val + 7 - c.val) % 8, by omega⟩, Finset.mem_univ _, Fin.ext ?_⟩
    show (c.val + ((s.val + 7 - c.val) % 8 + 1)) % 8 = s.val
    omega
  · rintro ⟨r, -, rfl⟩
    exact ⟨fun h => rot_ne c r h, Finset.mem_univ _⟩

omit [FloatOps F] in
/-- A family over the devices: a device's own member, and its peers'. -/
theorem around (c : Dev nD) (Φ : Fin 8 → sProp 𝕄) : bigSep Finset.univ Φ = iprop(Φ c ∗ bigSep Finset.univ fun r : Fin 7 => Φ (peer c r)) := by
  rw [out (i := c) (Finset.mem_univ c), erase_peers, bigSep_map]; rfl

set_option backward.proofsInPublic true in
def succs : Fin 7 ↪ Fin 8 := ⟨Fin.succ, Fin.succ_injective 7⟩
omit [FloatOps F] in
/-- A family over eight indices: the first and the other seven. -/
theorem firsts (Φ : Fin 8 → sProp 𝕄) : bigSep Finset.univ Φ = iprop(Φ 0 ∗ bigSep Finset.univ fun r : Fin 7 => Φ r.succ) := by
  rw [out (i := 0) (Finset.mem_univ 0), show (Finset.univ : Finset (Fin 8)).erase 0 = Finset.univ.map succs by decide, bigSep_map]; rfl

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A family over the entries of the four arrays: of each array the unused entry and the seven used. -/
theorem entries (c : Dev nD) (Φ : Fin 4 × Fin 8 → sProp 𝕄) : bigSep Finset.univ Φ
    = iprop((Φ (0, 0) ∗ bigSep Finset.univ fun r : Fin 7 => Φ (0, r.succ)) ∗ (Φ (1, c) ∗ bigSep Finset.univ fun r : Fin 7 => Φ (1, peer c r))
      ∗ (Φ (2, 0) ∗ bigSep Finset.univ fun r : Fin 7 => Φ (2, r.succ)) ∗ (Φ (3, c) ∗ bigSep Finset.univ fun r : Fin 7 => Φ (3, peer c r))) := by
  rw [bigSep_univ_prod, four, firsts (fun b => Φ (0, b)), around c (fun b => Φ (1, b)), firsts (fun b => Φ (2, b)), around c (fun b => Φ (3, b))]

/-! ## Buffers by pieces -/

/-- The places where a function has different values are disjoint. -/
theorem fib_disjoint {α : Type} [Fintype α] [DecidableEq α] {n : ℕ} (g : α → ℕ) (b b' : Fin n) (h : b ≠ b') :
    Disjoint (Finset.univ.filter fun i => g i = b.val) (Finset.univ.filter fun i => g i = b'.val) :=
  Finset.disjoint_left.mpr fun i h1 h2 => h (Fin.ext ((Finset.mem_filter.mp h1).2.symm.trans (Finset.mem_filter.mp h2).2))
/-- The places of all its values are all the places. -/
theorem fib_cover {α : Type} [Fintype α] [DecidableEq α] {n : ℕ} (g : α → ℕ) (hg : ∀ i, g i < n) :
    (Finset.univ : Finset (Fin n)).biUnion (fun b => Finset.univ.filter fun i => g i = b.val) = Finset.univ :=
  Finset.eq_univ_iff_forall.mpr fun i => Finset.mem_biUnion.mpr ⟨⟨g i, hg i⟩, Finset.mem_univ _, Finset.mem_filter.mpr ⟨Finset.mem_univ _, rfl⟩⟩

omit [FloatOps F] in
/-- A buffer of unknown contents, split into disjoint pieces that cover it. -/
theorem split_ex {ℓ : Loc nD τ sig} {B : Type} [Fintype B] [DecidableEq B] (I : B → Finset (Idx ℓ)) (hd : ∀ b b', b ≠ b' → Disjoint (I b) (I b'))
    (hc : Finset.univ.biUnion I = Finset.univ) {q : PosShare TreeShare} :
    iprop(∃ f : Buf (Elt F) ℓ, ℓ ↦{q} f) ⊢ (bigSep Finset.univ fun b => iprop(∃ f, ℓ ↦[I b]{q} f) : sProp 𝕄) := by
  iintro ⟨%f, H⟩
  ihave H := (Entails.of_eq (Ring.pointsTo_blocks I hd hc f)) $$ H
  iapply (show (bigSep Finset.univ fun b => (ℓ ↦[I b]{q} f : sProp 𝕄)) ⊢ bigSep Finset.univ fun b => iprop(∃ f, ℓ ↦[I b]{q} f) from
    bigSep_mono fun b _ => show (ℓ ↦[I b]{q} f : sProp 𝕄) ⊢ iprop(∃ f, ℓ ↦[I b]{q} f) from by iintro H; iexists f; iexact H)
  iexact H

omit [FloatOps F] in
/-- The pieces of a buffer, joined. -/
theorem join_all {ℓ : Loc nD τ sig} {B : Type} [Fintype B] [DecidableEq B] (I : B → Finset (Idx ℓ)) (hd : ∀ b b', b ≠ b' → Disjoint (I b) (I b'))
    (hc : Finset.univ.biUnion I = Finset.univ) (f : Buf (Elt F) ℓ) {q : PosShare TreeShare} :
    (bigSep Finset.univ fun b => (ℓ ↦[I b]{q} f : sProp 𝕄)) ⊢ (ℓ ↦{q} f : sProp 𝕄) :=
  Entails.of_eq (Ring.pointsTo_blocks I hd hc f).symm

section Split
variable (c : Dev nD)

omit [FloatOps F] in
theorem open_yb : iprop(∃ f, (c : Thread nD τ).loc cc0_scratch3 ↦{fullShare} f) ⊢ (stage (F := F) (yA c) nothing 0 : sProp 𝕄) := by
  have e : (fun j : Fin 16 => half (sj c j.val).val (hj j.val).val)
      = fun j : Fin 16 => Finset.univ.filter fun i : S8x512x1024.Idx => 2 * (((i 0).val + 7 - c.val) % 8) + (i 2).val / 512 = j.val := by
    funext j
    ext i
    have h0 : (i 0).val < 8 := (i 0).isLt
    have h2 : (i 2).val < 1024 := (i 2).isLt
    have hj := j.isLt
    have h4 : c.val < 8 := c.isLt
    show i ∈ half ((c.val + (j.val / 2 + 1)) % 8) (j.val % 2) ↔ _
    simp only [half, Finset.mem_filter, Finset.mem_univ, true_and]
    omega
  refine BIBase.Entails.trans ?_ (stage_zero (yA c) nothing)
  have hb : ∀ i : S8x512x1024.Idx, 2 * (((i 0).val + 7 - c.val) % 8) + (i 2).val / 512 < 16 := fun i => by
    have h2 : (i 2).val < 1024 := (i 2).isLt
    have := Nat.mod_lt ((i 0).val + 7 - c.val) (show 0 < 8 by decide)
    omega
  have key : ∀ I : Fin 16 → Finset S8x512x1024.Idx, (I = fun j : Fin 16 => Finset.univ.filter fun i : S8x512x1024.Idx => 2 * (((i 0).val + 7 - c.val) % 8) + (i 2).val / 512 = j.val) →
      (∀ b b', b ≠ b' → Disjoint (I b) (I b')) ∧ Finset.univ.biUnion I = Finset.univ := by
    rintro _ rfl; exact ⟨fib_disjoint _, fib_cover _ hb⟩
  exact split_ex (ℓ := (c : Thread nD τ).loc cc0_scratch3) (fun j : Fin 16 => half (sj c j.val).val (hj j.val).val) (key _ e).1 (key _ e).2

theorem slot_disj (b b' : Fin 8) (h : b ≠ b') : Disjoint (slot b.val) (slot b'.val) := fib_disjoint _ b b' h
theorem slot_cover : (Finset.univ : Finset (Fin 8)).biUnion (fun b => slot b.val) = Finset.univ := fib_cover (n := 8) _ fun i => (i 0).isLt
theorem mslot_disj (b b' : Fin 8) (h : b ≠ b') : Disjoint (mslot b.val) (mslot b'.val) := fib_disjoint _ b b' h
theorem mslot_cover : (Finset.univ : Finset (Fin 8)).biUnion (fun b => mslot b.val) = Finset.univ := fib_cover (n := 8) _ fun i => (i 0).isLt
theorem wslot_disj (b b' : Fin 3) (h : b ≠ b') : Disjoint (wslot b.val) (wslot b'.val) := fib_disjoint _ b b' h
theorem wslot_cover : (Finset.univ : Finset (Fin 3)).biUnion (fun b => wslot b.val) = Finset.univ := fib_cover (n := 3) _ fun i => (i 0).isLt
theorem xcol_disj (b b' : Fin 4) (h : b ≠ b') : Disjoint (xcol b.val) (xcol b'.val) := fib_disjoint _ b b' h
theorem xcol_cover : (Finset.univ : Finset (Fin 4)).biUnion (fun b => xcol b.val) = Finset.univ :=
  fib_cover (n := 4) (fun i : S512x4096.Idx => (i 1).val / 1024) fun i => by have h : (i 1).val < 4096 := (i 1).isLt; omega
theorem orow_disj (b b' : Fin 8) (h : b ≠ b') : Disjoint (orow b.val) (orow b'.val) := fib_disjoint _ b b' h
theorem orow_cover : (Finset.univ : Finset (Fin 8)).biUnion (fun b => orow b.val) = Finset.univ :=
  fib_cover (n := 8) (fun i : S4096x1024.Idx => (i 0).val / 512) fun i => by have h : (i 0).val < 4096 := (i 0).isLt; omega

omit [FloatOps F] in
theorem open_ybr : iprop(∃ f, (c : Thread nD τ).loc cc0_scratch4 ↦{fullShare} f)
    ⊢ (iprop((∃ f, (c : Thread nD τ).loc cc0_scratch4 ↦[slot c.val]{fullShare} f)
      ∗ bigSep Finset.univ fun r : Fin 7 => iprop(∃ f, (c : Thread nD τ).loc cc0_scratch4 ↦[slot (peer c r).val]{fullShare} f)) : sProp 𝕄) :=
  (split_ex (ℓ := (c : Thread nD τ).loc cc0_scratch4) (fun s : Fin 8 => slot s.val) slot_disj slot_cover).trans (Entails.of_eq (around c _))
omit [FloatOps F] in
theorem open_am : iprop(∃ f, (c : Thread nD τ).loc cc0_scratch5 ↦{fullShare} f)
    ⊢ (iprop((∃ f, (c : Thread nD τ).loc cc0_scratch5 ↦[mslot c.val]{fullShare} f)
      ∗ bigSep Finset.univ fun r : Fin 7 => iprop(∃ f, (c : Thread nD τ).loc cc0_scratch5 ↦[mslot (peer c r).val]{fullShare} f)) : sProp 𝕄) :=
  (split_ex (ℓ := (c : Thread nD τ).loc cc0_scratch5) (fun s : Fin 8 => mslot s.val) mslot_disj mslot_cover).trans (Entails.of_eq (around c _))
omit [FloatOps F] in
theorem open_out : iprop(∃ f, (c : Thread nD τ).loc cc0_stg0_0 ↦{fullShare} f)
    ⊢ (iprop((∃ f, (c : Thread nD τ).loc cc0_stg0_0 ↦[orow c.val]{fullShare} f)
      ∗ bigSep Finset.univ fun r : Fin 7 => iprop(∃ f, (c : Thread nD τ).loc cc0_stg0_0 ↦[orow (peer c r).val]{fullShare} f)) : sProp 𝕄) :=
  (split_ex (ℓ := (c : Thread nD τ).loc cc0_stg0_0) (fun s : Fin 8 => orow s.val) orow_disj orow_cover).trans (Entails.of_eq (around c _))
omit [FloatOps F] in
theorem open_xb : iprop(∃ f, (c : Thread nD τ).loc cc0_scratch1 ↦{fullShare} f) ⊢ (bigSep Finset.univ (xA (F := F) c) : sProp 𝕄) :=
  split_ex (ℓ := (c : Thread nD τ).loc cc0_scratch1) (fun s : Fin 4 => xcol s.val) xcol_disj xcol_cover
theorem close_xb : bigSep Finset.univ (xB m c) ⊢ ((c : Thread nD τ).loc cc0_scratch1 ↦{fullShare} XB m c) :=
  join_all (ℓ := (c : Thread nD τ).loc cc0_scratch1) (fun s : Fin 4 => xcol s.val) xcol_disj xcol_cover (XB m c)

/-- The three free places of the weights, and the shares of the weights. -/
theorem wfree_all : bigSep Finset.univ (wFree m c) = iprop((bigSep Finset.univ fun k : Fin 3 => (iprop(∃ f, (c : Thread nD τ).loc cc0_scratch2 ↦[wslot k.val]{fullShare} f) : sProp 𝕄))
      ∗ (bigSep Finset.univ fun k : Fin 3 => (semVal ((c : Thread nD τ), .dma (wsem k)) 0 : sProp 𝕄))
      ∗ (bigSep Finset.univ fun k : Fin 3 => (((c : Thread nD τ).loc main_arg1 ↦[Finset.univ]{Transfers.shareTokN fullShare k.val} Wt m c) : sProp 𝕄))) := by
  rw [← bigSep_sep', ← bigSep_sep']

/-- The weight buffer's slots and the weights' shares, at the start; -/
theorem open_w : iprop((∃ f, (c : Thread nD τ).loc cc0_scratch2 ↦{fullShare} f) ∗ (bigSep Finset.univ fun k : Fin 3 => semVal ((c : Thread nD τ), .dma (wsem k)) 0)
      ∗ ((c : Thread nD τ).loc main_arg1 ↦{fullShare} Wt m c))
    ⊢ iprop((wFree m c 0 ∗ wFree m c 1 ∗ wFree m c 2) ∗ ((c : Thread nD τ).loc main_arg1 ↦[Finset.univ]{Transfers.shareDrop fullShare 3} Wt m c)) := by
  iintro ⟨Hb, Hz, Ha⟩
  ihave Hb := (split_ex (F := F) (ℓ := (c : Thread nD τ).loc cc0_scratch2) (fun s : Fin 3 => wslot s.val) wslot_disj wslot_cover) $$ Hb
  ihave ⟨Hd, Ha⟩ := (pointsTo_toks_split (S := Finset.univ) (f := Wt m c) (ℓ := (c : Thread nD τ).loc main_arg1) fullShare 3) $$ Ha
  isplitr [Hd]
  · iapply (Entails.of_eq (three (wFree m c)))
    iapply (Entails.of_eq (wfree_all m c).symm)
    isplitl [Hb]; · iexact Hb
    isplitl [Hz] <;> iassumption
  iexact Hd
/-- and together again at the end. -/
theorem close_w : iprop((wFree m c 0 ∗ wFree m c 1 ∗ wFree m c 2) ∗ ((c : Thread nD τ).loc main_arg1 ↦[Finset.univ]{Transfers.shareDrop fullShare 3} Wt m c))
    ⊢ iprop((∃ f, (c : Thread nD τ).loc cc0_scratch2 ↦{fullShare} f) ∗ (bigSep Finset.univ fun k : Fin 3 => semVal ((c : Thread nD τ), .dma (wsem k)) 0)
      ∗ ((c : Thread nD τ).loc main_arg1 ↦{fullShare} Wt m c)) := by
  iintro ⟨H, Hd⟩
  ihave H := (Entails.of_eq (three (wFree m c)).symm) $$ H
  ihave ⟨Hb, Hz, Ha⟩ := (Entails.of_eq (wfree_all m c)) $$ H
  isplitl [Hb]
  · iapply (Ring.pointsTo_blocks_join_exists (Val := Elt F) (ℓ := (c : Thread nD τ).loc cc0_scratch2) (fun s : Fin 3 => wslot s.val) wslot_disj wslot_cover (WB m c c 0)); iexact Hb
  isplitl [Hz]; · iexact Hz
  iapply (pointsTo_toks_join (S := Finset.univ) (f := Wt m c) (ℓ := (c : Thread nD τ).loc main_arg1) fullShare 3)
  isplitl [Hd] <;> iassumption

theorem close_yb : iprop(((c : Thread nD τ).loc cc0_scratch3 ↦[slot c.val]{fullShare} YB m c)
      ∗ bigSep Finset.univ fun r : Fin 7 => ((c : Thread nD τ).loc cc0_scratch3 ↦[slot (peer c r).val]{fullShare} YB m c))
    ⊢ (((c : Thread nD τ).loc cc0_scratch3 ↦{fullShare} YB m c) : sProp 𝕄) := by
  rw [← around c (fun s : Fin 8 => (((c : Thread nD τ).loc cc0_scratch3 ↦[slot s.val]{fullShare} YB m c) : sProp 𝕄))]
  exact join_all (ℓ := (c : Thread nD τ).loc cc0_scratch3) (fun s : Fin 8 => slot s.val) slot_disj slot_cover (YB m c)
theorem close_ybr : iprop(((c : Thread nD τ).loc cc0_scratch4 ↦[slot c.val]{fullShare} YBR m c)
      ∗ bigSep Finset.univ fun r : Fin 7 => ((c : Thread nD τ).loc cc0_scratch4 ↦[slot (peer c r).val]{fullShare} YBR m c))
    ⊢ (((c : Thread nD τ).loc cc0_scratch4 ↦{fullShare} YBR m c) : sProp 𝕄) := by
  rw [← around c (fun s : Fin 8 => (((c : Thread nD τ).loc cc0_scratch4 ↦[slot s.val]{fullShare} YBR m c) : sProp 𝕄))]
  exact join_all (ℓ := (c : Thread nD τ).loc cc0_scratch4) (fun s : Fin 8 => slot s.val) slot_disj slot_cover (YBR m c)
theorem close_am : iprop(((c : Thread nD τ).loc cc0_scratch5 ↦[mslot c.val]{fullShare} AM m)
      ∗ bigSep Finset.univ fun r : Fin 7 => ((c : Thread nD τ).loc cc0_scratch5 ↦[mslot (peer c r).val]{fullShare} AM m))
    ⊢ (((c : Thread nD τ).loc cc0_scratch5 ↦{fullShare} AM m) : sProp 𝕄) := by
  rw [← around c (fun s : Fin 8 => (((c : Thread nD τ).loc cc0_scratch5 ↦[mslot s.val]{fullShare} AM m) : sProp 𝕄))]
  exact join_all (ℓ := (c : Thread nD τ).loc cc0_scratch5) (fun s : Fin 8 => mslot s.val) mslot_disj mslot_cover (AM m)
theorem close_out : iprop(((c : Thread nD τ).loc cc0_stg0_0 ↦[orow c.val]{fullShare} OUT m c)
      ∗ bigSep Finset.univ fun r : Fin 7 => ((c : Thread nD τ).loc cc0_stg0_0 ↦[orow (peer c r).val]{fullShare} OUT m c))
    ⊢ (((c : Thread nD τ).loc cc0_stg0_0 ↦{fullShare} OUT m c) : sProp 𝕄) := by
  rw [← around c (fun s : Fin 8 => (((c : Thread nD τ).loc cc0_stg0_0 ↦[orow s.val]{fullShare} OUT m c) : sProp 𝕄))]
  exact join_all (ℓ := (c : Thread nD τ).loc cc0_stg0_0) (fun s : Fin 8 => orow s.val) orow_disj orow_cover (OUT m c)

end Split

/-! ## Where a device starts and ends -/

section Ends
variable (K : Dev nD × KIx → ℕ) (c : Dev nD)

/-- The tokens of the duties device `c` pays. -/
def toks (c : Dev nD) : sProp 𝕄 :=
  iprop((bigSep Finset.univ fun r : Fin 7 => dutyTok EB (barCell (peer c r)) 0 (back r))
    ∗ (bigSep Finset.univ fun r : Fin 7 => iprop(dutyTok EB (cell c 2 r.succ) 0 0 ∗ dutyTok EB (cell (peer c r) 3 c) 0 0))
    ∗ (bigSep Finset.univ fun r : Fin 7 => iprop(dutyTok EB (cell c 0 r.succ) 0 0 ∗ dutyTok EB (cell (peer c r) 1 c) 0 0)))
/-- Its credit. -/
def creds (c : Dev nD) : sProp 𝕄 :=
  iprop(cred (tallyAt (barCell c) () 7) ∗ (bigSep Finset.univ fun r : Fin 7 => cred (tallyAt (cell c 3 (peer c r)) () (amt 3)))
    ∗ (bigSep Finset.univ fun r : Fin 7 => cred (tallyAt (cell c 1 (peer c r)) () (amt 1))))
/-- Its positions. -/
def poss (c : Dev nD) : sProp 𝕄 :=
  iprop(atPos EB (barCell c) 0 ∅ 0 ∗ bigSep Finset.univ fun p : Fin 4 × Fin 8 => atPos EB (cell c p.1 p.2) 0 ∅ 0)
/-- The semaphores of the copies within the device, at zero; -/
def zloc (c : Dev nD) : sProp 𝕄 :=
  iprop(semVal ((c : Thread nD τ), .dma xsem) 0 ∗ (bigSep Finset.univ fun k : Fin 3 => semVal ((c : Thread nD τ), .dma (wsem k)) 0)
    ∗ semVal ((c : Thread nD τ), .dma osem) 0)
/-- those of the copies between devices, and the barrier. -/
def zrem (c : Dev nD) : sProp 𝕄 :=
  iprop(semVal (barCell c) 0 ∗ bigSep Finset.univ fun p : Fin 4 × Fin 8 => semVal (cell c p.1 p.2) 0)
/-- The kernel's own buffers. -/
def scr (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f))
/-- The operands. -/
def ops (c : Dev nD) : sProp 𝕄 :=
  iprop(((c : Thread nD τ).loc main_arg0 ↦{fullShare} X m c) ∗ ((c : Thread nD τ).loc main_arg1 ↦{fullShare} Wt m c))

/-- The unused entries of the arrays are closed where they are. -/
theorem close_unused (a : Fin 4) (s : Fin 8) (h : ¬ used c a s) :
    iprop(invs m K ∗ atPos EB (cell c a s) 0 ∅ 0) ⊢ |={Set.univ}=> semVal (cell c a s) 0 := by
  iintro ⟨#HI, Hat⟩
  ihave ⟨#HIb, -⟩ := (invs_get m K (c, some (a, s))) $$ HI
  iapply (Rounds.cell_close EB (Rd m) (Set.mem_univ (K (c, some (a, s)))) (fun h => h) (R := 0) (fun r _ => duties_unused m c a s h r))
  isplitr; · iexact HIb
  iexact Hat

/-- At the start the landing places go with the signals' tokens. -/
theorem open_sig : iprop((bigSep Finset.univ fun r : Fin 7 => dutyTok EB (barCell (peer c r)) 0 (back r))
      ∗ (bigSep Finset.univ fun r : Fin 7 => iprop(∃ f, (c : Thread nD τ).loc cc0_scratch4 ↦[slot (peer c r).val]{fullShare} f))
      ∗ (bigSep Finset.univ fun r : Fin 7 => iprop(∃ f, (c : Thread nD τ).loc cc0_scratch5 ↦[mslot (peer c r).val]{fullShare} f)))
    ⊢ (stage (sigA (F := F) c) nothing 0 : sProp 𝕄) := by
  refine Entails.trans (Entails.of_eq ?_) (stage_zero (sigA c) nothing)
  rw [← bigSep_sep', ← bigSep_sep']; rfl

/-- After the barrier the peers' places go with the tokens of the copies. -/
theorem open_landing : (bigSep Finset.univ fun d : Fin 7 => landing (F := F) (rot c (d.val + 1)) c)
    ⊢ iprop((bigSep Finset.univ fun r : Fin 7 => iprop(∃ f, (rot c (r.val + 1) : Thread nD τ).loc cc0_scratch4 ↦[slot c.val]{fullShare} f))
      ∗ (bigSep Finset.univ fun r : Fin 7 => iprop(∃ f, (rot c (r.val + 1) : Thread nD τ).loc cc0_scratch5 ↦[mslot c.val]{fullShare} f))) :=
  Entails.of_eq (bigSep_sep' _ _ _)

theorem open_ch : iprop((bigSep Finset.univ fun r : Fin 7 => iprop(dutyTok EB (cell c 2 r.succ) 0 0 ∗ dutyTok EB (cell (peer c r) 3 c) 0 0))
      ∗ (bigSep Finset.univ fun r : Fin 7 => iprop(∃ f, (rot c (r.val + 1) : Thread nD τ).loc cc0_scratch4 ↦[slot c.val]{fullShare} f)))
    ⊢ (stage (chA (F := F) c) (chB c) 0 : sProp 𝕄) := by
  refine Entails.trans (Entails.of_eq ?_) (stage_zero (chA c) (chB c))
  rw [← bigSep_sep']
  exact BI.bigSep_congr fun r _ => assoc_eq _ _ _

/-- The row of maxima is shared out over its seven copies. -/
theorem open_row : iprop((bigSep Finset.univ fun r : Fin 7 => iprop(dutyTok EB (cell c 0 r.succ) 0 0 ∗ dutyTok EB (cell (peer c r) 1 c) 0 0))
      ∗ ((c : Thread nD τ).loc cc0_scratch5 ↦[mslot c.val]{fullShare} AM m)
      ∗ (bigSep Finset.univ fun r : Fin 7 => iprop(∃ f, (rot c (r.val + 1) : Thread nD τ).loc cc0_scratch5 ↦[mslot c.val]{fullShare} f)))
    ⊢ iprop(stage (amA m c) (amB c) 0 ∗ ((c : Thread nD τ).loc cc0_scratch5 ↦[mslot c.val]{Transfers.shareDrop fullShare 7} AM m)) := by
  iintro ⟨Ht, Ha, Hl⟩
  ihave ⟨Hd, Ha⟩ := (pointsTo_toks_split (S := mslot c.val) (f := AM m) (ℓ := (c : Thread nD τ).loc cc0_scratch5) fullShare 7) $$ Ha
  isplitr [Hd]
  · iapply (stage_zero (amA m c) (amB c))
    iapply (Entails.of_eq (show iprop((bigSep Finset.univ fun r : Fin 7 => iprop(dutyTok EB (cell c 0 r.succ) 0 0 ∗ dutyTok EB (cell (peer c r) 1 c) 0 0))
        ∗ (bigSep Finset.univ fun r : Fin 7 => ((c : Thread nD τ).loc cc0_scratch5 ↦[mslot c.val]{Transfers.shareTok fullShare 7 r} AM m))
        ∗ (bigSep Finset.univ fun r : Fin 7 => iprop(∃ f, (rot c (r.val + 1) : Thread nD τ).loc cc0_scratch5 ↦[mslot c.val]{fullShare} f)))
          = bigSep Finset.univ (amA m c) by
      rw [← bigSep_sep', ← bigSep_sep']
      exact BI.bigSep_congr fun r _ => assoc_eq _ _ _))
    isplitl [Ht]; · iexact Ht
    isplitl [Ha] <;> iassumption
  iexact Hd

/-- Once every copy of the row has left and every other row has arrived, the maxima are whole. -/
theorem close_rows : iprop((bigSep Finset.univ (waitB m c 0 Fin.succ)) ∗ (bigSep Finset.univ (waitB m c 1 (peer c)))
      ∗ ((c : Thread nD τ).loc cc0_scratch5 ↦[mslot c.val]{Transfers.shareDrop fullShare 7} AM m))
    ⊢ iprop(((c : Thread nD τ).loc cc0_scratch5 ↦{fullShare} AM m) ∗ (bigSep Finset.univ fun r : Fin 7 => semVal (cell c 0 r.succ) 0)
      ∗ (bigSep Finset.univ fun r : Fin 7 => semVal (cell c 1 (peer c r)) 0)) := by
  have e0 : bigSep Finset.univ (waitB m c 0 Fin.succ) = iprop((bigSep Finset.univ fun r : Fin 7 => ((c : Thread nD τ).loc cc0_scratch5 ↦[mslot c.val]{Transfers.shareTok fullShare 7 r} AM m))
      ∗ (bigSep Finset.univ fun r : Fin 7 => semVal (cell c 0 r.succ) 0)) := by rw [← bigSep_sep']; rfl
  have e1 : bigSep Finset.univ (waitB m c 1 (peer c)) = iprop((bigSep Finset.univ fun r : Fin 7 => ((c : Thread nD τ).loc cc0_scratch5 ↦[mslot (peer c r).val]{fullShare} AM m))
      ∗ (bigSep Finset.univ fun r : Fin 7 => semVal (cell c 1 (peer c r)) 0)) := by rw [← bigSep_sep']; rfl
  rw [e0, e1]
  iintro ⟨⟨H0, Hz0⟩, ⟨H1, Hz1⟩, Hd⟩
  isplitr [Hz0 Hz1]
  · iapply (close_am m c)
    isplitr [H1]
    · iapply (pointsTo_toks_join (S := mslot c.val) (f := AM m) (ℓ := (c : Thread nD τ).loc cc0_scratch5) fullShare 7)
      isplitl [Hd] <;> iassumption
    iexact H1
  isplitl [Hz0] <;> iassumption

/-- To wait: the credit with the position. -/
theorem open_wait (a : Fin 4) (ix : Fin 7 → Fin 8) : iprop((bigSep Finset.univ fun r : Fin 7 => cred (tallyAt (cell c a (ix r)) () (amt a)))
      ∗ (bigSep Finset.univ fun r : Fin 7 => atPos EB (cell c a (ix r)) 0 ∅ 0)) ⊢ stage (waitA c a ix) (waitB m c a ix) 0 := by
  refine Entails.trans (Entails.of_eq ?_) (stage_zero (waitA c a ix) (waitB m c a ix))
  rw [← bigSep_sep']

theorem open_recv : iprop(((bigSep Finset.univ fun r : Fin 7 => cred (tallyAt (cell c 3 (peer c r)) () (amt 3)))
      ∗ (bigSep Finset.univ fun r : Fin 7 => atPos EB (cell c 3 (peer c r)) 0 ∅ 0))
      ∗ (bigSep Finset.univ fun r : Fin 7 => iprop(∃ f, (c : Thread nD τ).loc cc0_stg0_0 ↦[orow (peer c r).val]{fullShare} f)))
    ⊢ stage (qA c) (qB m c) 0 := by
  refine Entails.trans (Entails.of_eq ?_) (stage_zero (qA c) (qB m c))
  rw [← bigSep_sep', ← bigSep_sep']

theorem close_recv : stage (qA c) (qB m c) 7 ⊢ iprop((bigSep Finset.univ fun r : Fin 7 => semVal (cell c 3 (peer c r)) 0)
      ∗ (bigSep Finset.univ fun r : Fin 7 => ((c : Thread nD τ).loc cc0_scratch4 ↦[slot (peer c r).val]{fullShare} YBR m c))
      ∗ (bigSep Finset.univ fun r : Fin 7 => ((c : Thread nD τ).loc cc0_stg0_0 ↦[orow (peer c r).val]{fullShare} OUT m c))) := by
  refine (stage_full (qA c) (qB m c)).trans (Entails.of_eq ?_)
  rw [← bigSep_sep', ← bigSep_sep']

theorem close_sent : stage (waitA c 2 Fin.succ) (waitB m c 2 Fin.succ) 7 ⊢ iprop((bigSep Finset.univ fun r : Fin 7 => ((c : Thread nD τ).loc cc0_scratch3 ↦[slot (peer c r).val]{fullShare} YB m c))
      ∗ (bigSep Finset.univ fun r : Fin 7 => semVal (cell c 2 r.succ) 0)) := by
  refine (stage_full (waitA c 2 Fin.succ) (waitB m c 2 Fin.succ)).trans (Entails.of_eq ?_)
  rw [← bigSep_sep']; rfl

end Ends

end Cert.Qdq
end
-- ==== Proof.Deal.lean ====
/-
The launch: every device's buffers, counters, tokens and debts dealt out from the initial memory.
-/
module

public import proofs.«01_k».proof.Proof.Pieces

@[expose] public section

set_option maxRecDepth 16384

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)
/-! ## The semaphores dealt at launch -/

/-- The kernel's own semaphores: the five of the copies within the device, then the four arrays. -/
abbrev ownS : Fin 5 ⊕ (Fin 4 × Fin 8) → SemLoc sig
  | .inl 0 => .dma xsem | .inl 1 => .dma (wsem 0) | .inl 2 => .dma (wsem 1) | .inl 3 => .dma (wsem 2) | .inl 4 => .dma osem
  | .inr p => .dma (dsem p.1 p.2)

theorem ownSemFacts : Pipeline.OwnSemFacts cfg0.spec ownS := by decide

/-- Different names of the protocol are different semaphores. -/
theorem csem_injective : Function.Injective csem := by
  rintro (_ | ⟨a, s⟩) (_ | ⟨a', s'⟩) h
  · rfl
  · cases h
  · cases h
  · have h' : dsem a s = dsem a' s' := by injection h
    obtain ⟨rfl, rfl⟩ := dsem_inj h'; rfl

/-- So are they across the devices. -/
theorem kcell_injective : Function.Injective (kcell : Dev nD × KIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every semaphore of the protocol. -/
def allCells : Finset (GSem nD τ sig) := Finset.univ.map ⟨kcell, kcell_injective⟩

/-- The duties minted: a barrier's seven, and one for each entry of an array. -/
abbrev dutyOf : Dev nD × (Fin 7 ⊕ (Fin 4 × Fin 8)) → GSem nD τ sig × ℕ × Fin 7
  | (c, .inl d) => (barCell c, 0, d)
  | (c, .inr p) => (cell c p.1 p.2, 0, 0)

/-- Different names of duties are different duties. -/
theorem dutyOf_injective : Function.Injective dutyOf := by
  rintro ⟨c, d | ⟨a, s⟩⟩ ⟨c', d' | ⟨a', s'⟩⟩ h
  · have h1 : c = c' := congrArg (fun x : GSem nD τ sig × ℕ × Fin 7 => x.1.1.1) h
    have h2 : d = d' := congrArg (fun x : GSem nD τ sig × ℕ × Fin 7 => x.2.2) h
    rw [h1, h2]
  · have h2 := congrArg (fun x : GSem nD τ sig × ℕ × Fin 7 => x.1.2) h
    cases h2
  · have h2 := congrArg (fun x : GSem nD τ sig × ℕ × Fin 7 => x.1.2) h
    cases h2
  · have h1 : c = c' := congrArg (fun x : GSem nD τ sig × ℕ × Fin 7 => x.1.1.1) h
    have h2 : (SemLoc.dma (dsem a s) : SemLoc sig) = .dma (dsem a' s') := congrArg (fun x : GSem nD τ sig × ℕ × Fin 7 => x.1.2) h
    have h' : dsem a s = dsem a' s' := by injection h2
    obtain ⟨rfl, rfl⟩ := dsem_inj h'
    rw [h1]

/-- Every duty of the protocol. -/
def allToks : Finset (GSem nD τ sig × ℕ × Fin 7) := Finset.univ.map ⟨dutyOf, dutyOf_injective⟩

/-- The ghost state at the launch: the call's own, and the protocol's. -/
def u₀ : UU := (initOf (Pipeline.cells cfgs cellOf_inj) (Pipeline.launchToks cfgs cellOf_inj), (initOf allCells allToks, 1))

omit [FloatOps F] in
theorem u₀_split : (ownU u₀ : sProp 𝕄) ⊢ iprop(BI.own (EP (initOf (Pipeline.cells cfgs cellOf_inj) (Pipeline.launchToks cfgs cellOf_inj)))
    ∗ BI.own (EB (initOf allCells allToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf allCells allToks, (1 : Counters)))))

/-- The tokens of the duties on device `c`'s own semaphores. -/
def minted (c : Dev nD) : sProp 𝕄 :=
  iprop((bigSep Finset.univ fun d : Fin 7 => dutyTok EB (barCell c) 0 d) ∗ bigSep Finset.univ fun p : Fin 4 × Fin 8 => dutyTok EB (cell c p.1 p.2) 0 0)

/-- What the launch element deals device `c`. -/
def G (c : Dev nD) : sProp 𝕄 :=
  iprop((bigSep Finset.univ fun k : KIx => roundState EB (Rd m) (kcell (c, k)) 0)
    ∗ (bigSep Finset.univ fun k : KIx => iprop(atPos EB (kcell (c, k)) 0 ∅ 0 ∗ reached EB (kcell (c, k)) 0)) ∗ minted c)

/-- What the devices together make of it. -/
def G' (c : Dev nD) : sProp 𝕄 := iprop(∃ K, invs m K ∗ toks c ∗ poss c ∗ zloc c)

omit [FloatOps F] in
theorem bigSep_kix (Φ : KIx → sProp 𝕄) : bigSep Finset.univ Φ = iprop(Φ none ∗ bigSep Finset.univ fun p : Fin 4 × Fin 8 => Φ (some p)) := by
  rw [bigSep_univ_at Φ none, show (Finset.univ : Finset KIx).erase none = Finset.univ.map Function.Embedding.some by decide, bigSep_map]
  rfl

/-- The protocol's ghost state, dealt to the devices. -/
theorem fund_all : BI.own (EB (initOf allCells allToks)) ⊢ (|==> bigSep Finset.univ (G m) : sProp 𝕄) := by
  have hX (Φ : GSem nD τ sig → sProp 𝕄) : bigSep allCells Φ = bigSep Finset.univ fun c : Dev nD => bigSep Finset.univ fun k : KIx => Φ (kcell (c, k)) := by
    unfold allCells; rw [bigSep_map, bigSep_univ_prod]; rfl
  have hT : bigSep allToks (fun x => (dutyTok EB x.1 x.2.1 x.2.2 : sProp 𝕄)) = bigSep Finset.univ fun c : Dev nD => minted c := by
    unfold allToks; rw [bigSep_map, bigSep_univ_prod]
    exact bigSep_congr fun c _ => by unfold minted; rw [bigSep_univ_sum]; rfl
  iintro HX
  imod (Rounds.fund EB (Rd m) allCells allToks) $$ HX with ⟨Hst, Hr, Hat, Htok⟩
  imodintro
  ihave Hst' := (Entails.of_eq (hX fun g => roundState EB (Rd m) g 0)) $$ Hst
  ihave Hat' := (Entails.of_eq (hX fun g => atPos EB g 0 ∅ 0)) $$ Hat
  ihave Hr' := (Entails.of_eq (hX fun g => reached EB g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem ownSems0_eq (c : Dev nD) : (Pipeline.ownSems0 (Ix := Unit) (Name := ℕ) (U := UU) (Lvl := ℕ) (Val := Elt F) (τ := τ) ownS c : sProp 𝕄)
    = iprop(zloc c ∗ bigSep Finset.univ fun p : Fin 4 × Fin 8 => semVal (cell c p.1 p.2) 0) := by
  unfold Pipeline.ownSems0 zloc
  rw [bigSep_univ_sum, bigSep_five, three]
  congr 1
  rw [assoc_eq, assoc_eq]

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Each device's semaphores become invariants. -/
theorem core_alloc (c : Dev nD) :
    iprop(Pipeline.ownSems0 (Ix := Unit) (Name := ℕ) (U := UU) (Lvl := ℕ) (Val := Elt F) (τ := τ) ownS c ∗ unscopedSems0 c ∗ G m c)
      ⊢ |={Set.univ}=> iprop((bigSep Finset.univ fun k => iprop(∃ κ : ℕ, cellInv EB (Rd m) κ (kcell (c, k))))
          ∗ (bigSep Finset.univ fun k => iprop(atPos EB (kcell (c, k)) 0 ∅ 0 ∗ reached EB (kcell (c, k)) 0)) ∗ minted c ∗ zloc c) := by
  rw [ownSems0_eq, unscopedSems0_eq]
  unfold G
  iintro ⟨⟨Hz, Hos⟩, Hus, Hst, Hat, Htok⟩
  imod (show iprop((bigSep Finset.univ fun k : KIx => semVal (kcell (c, k)) 0) ∗ bigSep Finset.univ fun k : KIx => roundState EB (Rd m) (kcell (c, k)) 0)
      ⊢ (|={Set.univ}=> bigSep Finset.univ fun k => iprop(∃ κ : ℕ, cellInv EB (Rd m) κ (kcell (c, k))) : sProp 𝕄) from by
        rw [← bigSep_sep']
        exact (bigSep_mono fun k _ => (Rounds.body_intro EB (Rd m) (kcell (c, k))).trans inv_alloc).trans (bigSep_fupd _ _)) $$ [Hus Hos Hst] with Hinv
  · isplitl [Hus Hos]
    · iapply (Entails.of_eq (bigSep_kix fun k : KIx => semVal (kcell (c, k)) 0).symm)
      isplitl [Hus]; · iexact Hus
      iexact Hos
    iexact Hst
  imodintro
  isplitl [Hinv]; · iexact Hinv
  isplitl [Hat]; · iexact Hat
  isplitl [Htok]; · iexact Htok
  iexact Hz

/-- A device and a distance, seen from the other end. -/
def swap : Dev nD × Fin 7 ≃ Dev nD × Fin 7 where
  toFun p := (rot p.1 (p.2.val + 1), back p.2)
  invFun p := (rot p.1 (p.2.val + 1), back p.2)
  left_inv p := by simp only [rot_back, back_back]
  right_inv p := by simp only [rot_back, back_back]

omit [FloatOps F] in
/-- What is indexed by a device and a distance, told from the other end. -/
theorem exchange (Ψ : Dev nD → Fin 7 → sProp 𝕄) :
    (bigSep Finset.univ fun c : Dev nD => bigSep Finset.univ fun r : Fin 7 => Ψ c r)
      = bigSep Finset.univ fun c : Dev nD => bigSep Finset.univ fun r : Fin 7 => Ψ (rot c (r.val + 1)) (back r) := by
  rw [← bigSep_univ_prod (fun p : Dev nD × Fin 7 => Ψ p.1 p.2), bigSep_univ_equiv swap, bigSep_univ_prod]
  rfl

/-- Each token goes to the device that pays the duty. -/
theorem toks_deal : (bigSep Finset.univ fun c : Dev nD => (minted c : sProp 𝕄)) ⊢ bigSep Finset.univ fun c : Dev nD => toks c := by
  have hb := exchange (F := F) fun c r => dutyTok EB (barCell c) 0 r
  have hk (k : Fin 4) : (bigSep Finset.univ fun c : Dev nD => bigSep Finset.univ fun r : Fin 7 => (dutyTok EB (cell c k (peer c r)) 0 0 : sProp 𝕄))
      = bigSep Finset.univ fun c : Dev nD => bigSep Finset.univ fun r : Fin 7 => dutyTok EB (cell (peer c r) k c) 0 0 := by
    rw [exchange fun c r => dutyTok EB (cell c k (peer c r)) 0 0]
    exact bigSep_congr fun c _ => bigSep_congr fun r _ => by simp only [peer, rot_back]
  unfold minted toks
  rw [bigSep_congr (s := Finset.univ) (fun (c : Dev nD) _ => congrArg (fun P : sProp 𝕄 => iprop((bigSep Finset.univ fun d : Fin 7 => dutyTok EB (barCell c) 0 d) ∗ P))
    (entries c fun p : Fin 4 × Fin 8 => (dutyTok EB (cell c p.1 p.2) 0 0 : sProp 𝕄)))]
  simp only [bigSep_sep']
  iintro ⟨Hb, ⟨-, H0⟩, ⟨-, H1⟩, ⟨-, H2⟩, -, H3⟩
  ihave Hb := (Entails.of_eq hb) $$ Hb
  ihave H1 := (Entails.of_eq (hk 1)) $$ H1
  ihave H3 := (Entails.of_eq (hk 3)) $$ H3
  isplitl [Hb]; · iexact Hb
  isplitl [H2 H3]
  · isplitl [H2]; · iexact H2
    iexact H3
  isplitl [H0]; · iexact H0
  iexact H1

omit [FloatOps F] in
theorem poss_eq (c : Dev nD) : (poss c : sProp 𝕄) = bigSep Finset.univ fun k : KIx => atPos EB (kcell (c, k)) 0 ∅ 0 := by
  rw [bigSep_kix]; rfl

/-- Each device's share of the counters and tokens. -/
theorem deal :
    (bigSep Finset.univ fun c : Dev nD => iprop((bigSep Finset.univ fun k => iprop(∃ κ : ℕ, cellInv EB (Rd m) κ (kcell (c, k))))
          ∗ (bigSep Finset.univ fun k => iprop(atPos EB (kcell (c, k)) 0 ∅ 0 ∗ reached EB (kcell (c, k)) 0)) ∗ minted c ∗ zloc c) : sProp 𝕄)
      ⊢ bigSep Finset.univ (G' m) := by
  rw [bigSep_sep', bigSep_sep', bigSep_sep', ← bigSep_univ_prod (fun ck : Dev nD × KIx => iprop(∃ κ : ℕ, cellInv EB (Rd m) κ (kcell ck))),
    bigSep_congr (s := Finset.univ) (fun (c : Dev nD) _ => bigSep_sep' Finset.univ (fun k : KIx => (atPos EB (kcell (c, k)) 0 ∅ 0 : sProp 𝕄)) (fun k => reached EB (kcell (c, k)) 0)),
    bigSep_sep', ← bigSep_univ_prod (fun ck : Dev nD × KIx => (reached EB (kcell ck) 0 : sProp 𝕄))]
  iintro ⟨HI, ⟨Hat, #HR⟩, Htok, Hz⟩
  ihave HK := (BI.bigSep_exists_pi Finset.univ (fun (ck : Dev nD × KIx) (κ : ℕ) => (cellInv EB (Rd m) κ (kcell ck) : sProp 𝕄))) $$ HI
  icases HK with ⟨%K, #HI⟩
  ihave Htk := (toks_deal (F := F)) $$ Htok
  ihave #Hinv := (show iprop((bigSep Finset.univ fun ck : Dev nD × KIx => cellInv EB (Rd m) (K ck) (kcell ck))
      ∗ bigSep Finset.univ fun ck : Dev nD × KIx => reached EB (kcell ck) 0) ⊢ invs m K from by unfold invs; rw [bigSep_sep']) $$ []
  · isplitr; · iexact HI
    iexact HR
  ihave HIs := (BI.bigSep_of_persistent (Finset.univ : Finset (Dev nD)) (invs m K)) $$ Hinv
  iapply (show iprop((bigSep Finset.univ fun _ : Dev nD => invs m K) ∗ (bigSep Finset.univ fun c : Dev nD => toks c)
      ∗ (bigSep Finset.univ fun c : Dev nD => bigSep Finset.univ fun k : KIx => atPos EB (kcell (c, k)) 0 ∅ 0) ∗ bigSep Finset.univ fun c : Dev nD => zloc c)
      ⊢ (bigSep Finset.univ (G' m) : sProp 𝕄) from by
    rw [← bigSep_sep', ← bigSep_sep', ← bigSep_sep']
    exact bigSep_mono fun c _ => show iprop(invs m K ∗ toks c ∗ (bigSep Finset.univ fun k : KIx => atPos EB (kcell (c, k)) 0 ∅ 0) ∗ zloc c) ⊢ G' m c from by
      rw [← poss_eq]
      unfold G'
      iintro H
      iexists K; iexact H)
  isplitl [HIs]; · iexact HIs
  isplitl [Htk]; · iexact Htk
  isplitl [Hat]; · iexact Hat
  iexact Hz

/-- All the devices' counters and ghost state, dealt out. -/
theorem glob : (bigSep Finset.univ fun c => iprop(Pipeline.ownSems0 (Ix := Unit) (Name := ℕ) (U := UU) (Lvl := ℕ) (Val := Elt F) (τ := τ) ownS c ∗ unscopedSems0 c ∗ G m c) : sProp 𝕄)
    ⊢ |={Set.univ}=> bigSep Finset.univ (G' m) :=
  ((bigSep_mono fun c _ => core_alloc m c).trans (bigSep_fupd _ _)).trans (BI.fupd_mono (deal m))

/-! ## The credit dealt at launch -/

/-- What device `c` owes at launch. -/
def O₀ (c : Dev nD) : CellTallies nD τ sig Unit := Ow c 0 0 0

theorem rest_all (f : Fin 7 → CellTallies nD τ sig Unit) (g : GSem nD τ sig) : rest f 0 g () = ∑ r, f r g () := by
  unfold rest
  rw [Finset.filter_true_of_mem fun r _ => Nat.zero_le _, Finset.sum_apply, Finsupp.finset_sum_apply]

theorem bar_eq {a b : Dev nD} : barCell a = barCell b ↔ a = b :=
  ⟨fun h => congrArg (fun g : GSem nD τ sig => g.1.1) h, fun h => h ▸ rfl⟩
theorem cell_eq {a b : Dev nD} {k : Fin 4} {s s' : Fin 8} : cell a k s = cell b k s' ↔ a = b ∧ s = s' :=
  ⟨fun h => ⟨congrArg (fun g : GSem nD τ sig => g.1.1) h, by
    have h2 : (SemLoc.dma (dsem k s) : SemLoc sig) = .dma (dsem k s') := congrArg (fun g : GSem nD τ sig => g.2) h
    have h' : dsem k s = dsem k s' := by injection h2
    exact (dsem_inj h').2⟩, fun ⟨h, h'⟩ => h ▸ h' ▸ rfl⟩

/-- Seen from the device at distance `r + 1`, this device is at the distance `back r`. -/
theorem far_iff {c d : Dev nD} {r : Fin 7} : c = rot d (r.val + 1) ↔ d = rot c ((back r).val + 1) :=
  ⟨fun h => by rw [h, rot_back], fun h => by
    rw [h]
    have := rot_back c (back r)
    rw [back_back] at this
    exact this.symm⟩

/-- The devices together owe a barrier seven units. -/
theorem sum_bar (c : Dev nD) : ∑ d : Dev nD, rest (oBar d) 0 (barCell c) () = 7 := by
  rw [Finset.sum_congr rfl fun d _ => rest_all (oBar d) (barCell c), Finset.sum_comm,
    Finset.sum_congr rfl fun (r : Fin 7) _ => show ∑ d : Dev nD, oBar d r (barCell c) () = 1 from by
      rw [Finset.sum_congr rfl fun d _ => show oBar d r (barCell c) () = if d = rot c ((back r).val + 1) then 1 else 0 from by
        unfold oBar; rw [tallyAt_apply]
        exact if_congr ((and_iff_left rfl).trans (bar_eq.trans far_iff)) rfl rfl]
      rw [Finset.sum_ite_eq' Finset.univ _ fun _ => 1, if_pos (Finset.mem_univ _)]]
  rfl

theorem peer_inj {c : Dev nD} {r r' : Fin 7} (h : peer c r = peer c r') : r = r' := (peers c).injective h

/-- The devices together owe a receive entry what one copy credits. -/
theorem sum_recv (n : ℕ) (k : Fin 4) (c : Dev nD) (r₀ : Fin 7) :
    ∑ d : Dev nD, ∑ r : Fin 7, (tallyAt (cell (rot d (r.val + 1)) k d) () n : CellTallies nD τ sig Unit) (cell c k (peer c r₀)) () = n := by
  rw [Finset.sum_comm, Finset.sum_congr rfl fun (r : Fin 7) _ => show
      ∑ d : Dev nD, (tallyAt (cell (rot d (r.val + 1)) k d) () n : CellTallies nD τ sig Unit) (cell c k (peer c r₀)) () = if r = back r₀ then n else 0 from by
    rw [Finset.sum_congr rfl fun d _ => show (tallyAt (cell (rot d (r.val + 1)) k d) () n : CellTallies nD τ sig Unit) (cell c k (peer c r₀)) ()
        = if d = peer c r₀ then (if r = back r₀ then n else 0) else 0 from by
      rw [tallyAt_apply]
      by_cases hd : d = peer c r₀
      · rw [if_pos hd]
        refine if_congr ((and_iff_left rfl).trans (cell_eq.trans ?_)) rfl rfl
        rw [and_iff_left hd.symm, far_iff, hd]
        constructor
        · intro h
          rw [← back_back r]; exact congrArg back (peer_inj h).symm
        · intro h; rw [h, back_back]
      · rw [if_neg hd, if_neg]
        rintro ⟨h, -⟩
        exact hd (cell_eq.mp h).2.symm]
    rw [Finset.sum_ite_eq' Finset.univ _ fun _ => _, if_pos (Finset.mem_univ _)]]
  rw [Finset.sum_ite_eq' Finset.univ _ fun _ => n, if_pos (Finset.mem_univ _)]

omit [FloatOps F] in
theorem launch_at (D : Dev nD → CellTallies nD τ sig Unit) (g : GSem nD τ sig) (n : ℕ) (h : ∑ d, D d g () = n) :
    tallyOn g (launchCredit (Pipeline.owing D) 0 g) = (tallyAt g () n : CellTallies nD τ sig Unit) := by
  unfold tallyAt; refine congrArg _ (Finsupp.ext fun u => ?_); cases u
  rw [Pipeline.launchCredit_owing, Finsupp.single_eq_same, h]

/-- The seven entries of a receive array, as semaphores. -/
def recvSems (c : Dev nD) (k : Fin 4) : Fin 7 ↪ SemLoc sig := ⟨fun r => .dma (dsem k (peer c r)), fun r r' h => by
  have h' : dsem k (peer c r) = dsem k (peer c r') := by injection h
  exact peer_inj (dsem_inj h').2⟩

omit [FloatOps F] in
/-- A device is credited what is owed to a receive entry of its own. -/
theorem cred_recv (k : Fin 4) (n : ℕ) (c : Dev nD) (D : Dev nD → CellTallies nD τ sig Unit)
    (hD : ∀ d g, D d g () = ∑ r : Fin 7, (tallyAt (cell (rot d (r.val + 1)) k d) () n : CellTallies nD τ sig Unit) g ()) :
    (Pipeline.launchCred D c : sProp 𝕄) ⊢ bigSep Finset.univ fun r : Fin 7 => cred (tallyAt (cell c k (peer c r)) () n) := by
  unfold Pipeline.launchCred
  refine (Idealize.SL.BI.Entails.trans (bigSep_subset (Finset.subset_univ (Finset.univ.map (recvSems c k)))) ?_)
  rw [bigSep_map]
  refine Entails.of_eq (bigSep_congr fun r _ => ?_)
  show cred (tallyOn (cell c k (peer c r)) (launchCredit (Pipeline.owing D) 0 (cell c k (peer c r)))) = _
  rw [launch_at D (cell c k (peer c r)) n (by rw [Finset.sum_congr rfl fun d _ => hD d (cell c k (peer c r))]; exact sum_recv n k c r)]

/-- A device is credited what is owed to its semaphores. -/
theorem creds_intro (c : Dev nD) : (Pipeline.launchCred O₀ c : sProp 𝕄) ⊢ creds c := by
  rw [show O₀ = fun d => (rest (oAm d) 0 + rest (oCh d) 0) + rest (oBar d) 0 from rfl, Pipeline.launchCred_add, Pipeline.launchCred_add]
  unfold creds
  iintro ⟨⟨Ha, Hc⟩, Hb⟩
  isplitl [Hb]
  · iapply (show (Pipeline.launchCred (fun d => rest (oBar d) 0) c : sProp 𝕄) ⊢ cred (tallyAt (barCell c) () 7) from by
      unfold Pipeline.launchCred
      refine (Idealize.SL.BI.Entails.trans (bigSep_elim (Finset.mem_univ (SemLoc.reg barS))) ?_)
      exact Entails.of_eq (congrArg cred (launch_at _ (barCell c) 7 (sum_bar c))))
    iexact Hb
  isplitl [Hc]
  · iapply (cred_recv (F := F) 3 (amt 3) c (fun d => rest (oCh d) 0) fun d g => rest_all (oCh d) g); iexact Hc
  iapply (cred_recv (F := F) 1 (amt 1) c (fun d => rest (oAm d) 0) fun d g => rest_all (oAm d) g); iexact Ha

end Cert.Qdq
end
-- ==== Proof.Body.lean ====
/-
The kernel's body on one device: the phases in the printed order, from what the launch hands over to what the device gives back.
-/
module

public import proofs.«01_k».proof.Proof.Pieces

@[expose] public section

set_option maxRecDepth 16384

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)
/-- The kernel's body, as the launch calls it. -/
abbrev body : Prog (TpuEff nD τ sig (Elt F) Λ₀ .tc) PUnit :=
  cc0_body xM (Memref.isWhole_whole _) wM (Memref.isWhole_whole _) oM (Memref.isWhole_whole _) xsM (Memref.isWhole_whole _) xbM (Memref.isWhole_whole _) wbM (Memref.isWhole_whole _) ybM (Memref.isWhole_whole _) ybrM (Memref.isWhole_whole _) amM (Memref.isWhole_whole _) cc0_scratch6 cc0_scratch7 cc0_scratch8 cc0_scratch9 cc0_scratch10 cc0_scratch11 cc0_scratch12

/-- The credits of the waits. -/
theorem crW {o : Fin 3 → ℕ} {i t} {q : S1x4096x512.Squeezes S4096x512} :
    ((wbM.slice (Rect.unit (s := S3x4096x512) o S1x4096x512.size i) t).squeeze S4096x512 q).view.dmaCredit = NW := rfl
theorem crR {o : Fin 3 → ℕ} {i t} {q : S1x512x1024.Squeezes S512x1024} :
    ((ybrM.slice (Rect.unit (s := S8x512x1024) o S1x512x1024.size i) t).squeeze S512x1024 q).view.dmaCredit = NC := rfl
theorem crY {o : Fin 3 → ℕ} {i t} {q : S1x512x1024.Squeezes S512x1024} :
    ((ybM.slice (Rect.unit (s := S8x512x1024) o S1x512x1024.size i) t).squeeze S512x1024 q).view.dmaCredit = NC := rfl
theorem crA {o : Fin 3 → ℕ} {i t} {q : S1x8x128.Squeezes S8x128} :
    ((amM.slice (Rect.unit (s := S8x8x128) o S1x8x128.size i) t).squeeze S8x128 q).view.dmaCredit = NA := rfl

theorem unused_send (a : Fin 4) (c : Dev nD) (h : a.val % 2 = 0 := by decide) : ¬ used c a 0 := by
  revert c h; revert a; decide
theorem unused_recv (a : Fin 4) (c : Dev nD) (h : a.val % 2 = 1 := by decide) : ¬ used c a c := by
  revert c h; revert a; decide

section Body
variable (K : Dev nD × KIx → ℕ) (c : Dev nD)

/-- The maxima are read whole. -/
theorem wp_am {i0} {hl : amM.view.LoadsAt (Rect.unit (s := S8x8x128) ![0, 0, 0] S8x8x128.size i0).toLoadRect}
    {Q : PUnit → sProp 𝕄} {kk : Vec F S8x8x128 .f32 → Prog (TpuEff nD τ sig (Elt F) Λ₀ .tc) PUnit} :
    ((c : Thread nD τ).loc cc0_scratch5 ↦[Finset.univ]{fullShare} AM m)
      ⊢ iprop((((c : Thread nD τ).loc cc0_scratch5 ↦[Finset.univ]{fullShare} AM m) -∗ wp frame (wpE (defs₀ (F := F)) 𝒱₀ (c : Thread nD τ) none) Set.univ (kk (AM m)) Q)
        -∗ wp frame (wpE (defs₀ (F := F)) 𝒱₀ (c : Thread nD τ) none) Set.univ (.op (.load amM (Rect.unit (s := S8x8x128) ![0, 0, 0] S8x8x128.size i0).toLoadRect hl) kk) Q) := by
  iintro Ha Hk
  have e : amM.view.readAt (Elt F) (Rect.unit (s := S8x8x128) ![0, 0, 0] S8x8x128.size i0).toLoadRect (AM m) = AM m :=
    Memref.readAt_unit_zero (Elt F) cc0_scratch5 (show (![0, 0, 0] : Fin 3 → ℕ) = fun _ => 0 by decide) i0 (AM m)
  iapply (wp_load 𝒱₀ (c : Thread nD τ) none Set.univ (m := amM) (S := Finset.univ) (Finset.subset_univ _)) $$ Ha; iintro Ha
  rw [e]
  iapply Hk; iexact Ha

/-- The running maximum after the sixteen chunks is the device's maximum. -/
theorem amword : ∀ x, (k0_pay57 (k0_pay56 (k0_pay53 (k0_pay50 (k0_pay47 (k0_pay44 (k0_pay41 (k0_pay37 (k0_pay34 (k0_pay31 (k0_pay27 (k0_pay23 (k0_pay20 (k0_pay17 (k0_pay13 (k0_pay10 (k0_pay7 (k0_pay5 (XB m c) (Wj m c 0))) (XB m c) (Wj m c 1)) (XB m c) (Wj m c 2)) (k0_pay16 (XB m c) (Wj m c 3))) (XB m c) (Wj m c 4)) (XB m c) (Wj m c 5)) (k0_pay26 (XB m c) (Wj m c 6))) (k0_pay28 (XB m c) (Wj m c 7))) (XB m c) (Wj m c 8)) (XB m c) (Wj m c 9)) (k0_pay38 (XB m c) (Wj m c 10))) (k0_pay42 (XB m c) (Wj m c 11))) (XB m c) (Wj m c 12)) (XB m c) (Wj m c 13)) (XB m c) (Wj m c 14)) (XB m c) (Wj m c 15))) x = mx m c 15 := by
  intro x
  rw [show ∀ a v w (x : S1x8x128.Idx), k0_pay57 (F := F) (k0_pay56 a v w) x = k0_pay10 a v w from fun _ _ _ _ => rfl]
  rw [(show ∀ a v w, k0_pay13 (F := F) a v w = k0_pay10 a v w from fun _ _ _ => rfl), (show ∀ a v w, k0_pay17 (F := F) a (k0_pay16 v w) = k0_pay10 a v w from fun _ _ _ => rfl), (show ∀ a v w, k0_pay20 (F := F) a v w = k0_pay10 a v w from fun _ _ _ => rfl), (show ∀ a v w, k0_pay23 (F := F) a v w = k0_pay10 a v w from fun _ _ _ => rfl), (show ∀ a v w, k0_pay27 (F := F) a (k0_pay26 v w) = k0_pay10 a v w from fun _ _ _ => rfl), (show ∀ a v w, k0_pay31 (F := F) a (k0_pay28 v w) = k0_pay10 a v w from fun _ _ _ => rfl), (show ∀ a v w, k0_pay34 (F := F) a v w = k0_pay10 a v w from fun _ _ _ => rfl), (show ∀ a v w, k0_pay37 (F := F) a v w = k0_pay10 a v w from fun _ _ _ => rfl), (show ∀ a v w, k0_pay41 (F := F) a (k0_pay38 v w) = k0_pay10 a v w from fun _ _ _ => rfl), (show ∀ a v w, k0_pay44 (F := F) a (k0_pay42 v w) = k0_pay10 a v w from fun _ _ _ => rfl), (show ∀ a v w, k0_pay47 (F := F) a v w = k0_pay10 a v w from fun _ _ _ => rfl), (show ∀ a v w, k0_pay50 (F := F) a v w = k0_pay10 a v w from fun _ _ _ => rfl), (show ∀ a v w, k0_pay53 (F := F) a v w = k0_pay10 a v w from fun _ _ _ => rfl)]
  rw [show ∀ v w, k0_pay7 (F := F) (k0_pay5 v w) = k0_pay7 (k0_pay8 v w) from fun _ _ => rfl]
  simp only [mx]

theorem open_last : stage (F := F) (yA c) nothing 14 ⊢ (iprop((∃ f, (c : Thread nD τ).loc cc0_scratch3 ↦[half (sj c 14).val (hj 14).val]{fullShare} f)
    ∗ (∃ f, (c : Thread nD τ).loc cc0_scratch3 ↦[half (sj c 15).val (hj 15).val]{fullShare} f)) : sProp 𝕄) := by
  iintro Hy
  ihave ⟨Hy14, Hback⟩ := (show stage (F := F) (yA c) nothing 14 ⊢ (iprop(yA c 14 ∗ (nothing (14 : Fin 16) -∗ stage (yA c) nothing 15)) : sProp 𝕄) from stage_step (yA c) nothing 14) $$ Hy
  ihave Hy := (show iprop(nothing (14 : Fin 16) -∗ stage (yA (F := F) c) nothing 15) ⊢ (stage (yA (F := F) c) nothing 15 : sProp 𝕄) from by
    iintro H; iapply H; iempintro) $$ Hback
  ihave ⟨Hy15, -⟩ := (show stage (F := F) (yA c) nothing 15 ⊢ (iprop(yA c 15 ∗ (nothing (15 : Fin 16) -∗ stage (yA c) nothing 16)) : sProp 𝕄) from stage_step (yA c) nothing 15) $$ Hy
  isplitl [Hy14]; · iexact Hy14
  iexact Hy15

theorem last_join : iprop(yPt m c 14 ∗ yPt m c 15) ⊢ ((c : Thread nD τ).loc cc0_scratch3 ↦[slot c.val]{fullShare} YB m c : sProp 𝕄) := by
  have h := y_join m c 7 (a := 14) (b := 15) rfl rfl
  rwa [rot_eight] at h

theorem owe_end : (owe c (Ow c 7 7 7) ⊢ (owe c 0 : sProp 𝕄)) ∧ (owe c 0 ⊢ (owe c (Ow c 7 7 7) : sProp 𝕄)) := by
  rw [Ow_end]; exact ⟨Entails.refl _, Entails.refl _⟩

set_option maxHeartbeats 40000000 in
/-- The body, from what a device holds at its entry to what it holds at its end. -/
theorem wp_body {Q : PUnit → sProp 𝕄} :
    iprop(per m K ∗ toks c ∗ creds c ∗ poss c ∗ zloc c ∗ scr c ∗ ops m c ∗ (∃ f, (c : Thread nD τ).loc cc0_stg0_0 ↦{fullShare} f) ∗ owe c (Ow c 0 0 0))
      ⊢ iprop((((zrem c ∗ zloc c ∗ scr c ∗ ops m c ∗ ((c : Thread nD τ).loc cc0_stg0_0 ↦{fullShare} OUT m c) ∗ owe c 0) -∗ Q ⟨⟩)) -∗ wp frame (wpE (defs₀ (F := F)) 𝒱₀ (c : Thread nD τ) none) Set.univ (body (F := F)) Q) := by
  simp only [body, cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel
  simp only [semSignalWord, semWaitWord, Prog.lift, Prog.bind_op, Prog.bind_ret, Prog.pure_eq_ret, wp_deviceId]
  unfold poss creds toks zloc scr ops
  iintro ⟨#Hper, ⟨Htb, Htc, Hta⟩, ⟨Hcb, Hcc, Hca⟩, ⟨Hpb, Hp⟩, ⟨Hzx, Hzw, Hzo⟩, ⟨Hs0, Hs1, Hs2, Hs3, Hs4, Hs5⟩, ⟨HX, HW⟩, Ho, HO⟩ Hpost
  ihave ⟨#HI, #Hl⟩ := (Entails.of_eq (show per m K = iprop(invs m K ∗ levAts L lv) from rfl)) $$ Hper
  ihave ⟨⟨Hu0, Hp0⟩, ⟨Hu1, Hp1⟩, ⟨Hu2, Hp2⟩, ⟨Hu3, Hp3⟩⟩ := (Entails.of_eq (entries c fun p => atPos EB (cell c p.1 p.2) 0 ∅ 0)) $$ Hp
  ihave ⟨Hr4, Hl4⟩ := (open_ybr c) $$ Hs4
  ihave ⟨Hr5, Hl5⟩ := (open_am c) $$ Hs5
  ihave Hst := (open_sig c) $$ [Htb Hl4 Hl5]
  · isplitl [Htb]; · iexact Htb
    isplitl [Hl4]; · iexact Hl4
    iexact Hl5
  ihave HS := (Entails.of_eq (show iprop(per m K ∗ stage (sigA c) nothing 0 ∗ owe c (Ow c 0 0 0)) = sSig m K c 0 from rfl)) $$ [Hst HO]
  · isplitr; · iexact Hper
    isplitl [Hst]; · iexact Hst
    iexact HO
  iapply (ph_sig m K c 0 (i := 0) (j := 1) rfl rfl _ (Fin.ext (k0_dev1_eq c)) (kk := 1) rfl) $$ HS; iintro HS
  iapply (ph_sig m K c 1 (i := 1) (j := 2) rfl rfl _ (Fin.ext (k0_dev2_eq c)) (kk := 1) rfl) $$ HS; iintro HS
  iapply (ph_sig m K c 2 (i := 2) (j := 3) rfl rfl _ (Fin.ext (k0_dev3_eq c)) (kk := 1) rfl) $$ HS; iintro HS
  iapply (ph_sig m K c 3 (i := 3) (j := 4) rfl rfl _ (Fin.ext (k0_dev4_eq c)) (kk := 1) rfl) $$ HS; iintro HS
  iapply (ph_sig m K c 4 (i := 4) (j := 5) rfl rfl _ (Fin.ext (k0_dev5_eq c)) (kk := 1) rfl) $$ HS; iintro HS
  iapply (ph_sig m K c 5 (i := 5) (j := 6) rfl rfl _ (Fin.ext (k0_dev6_eq c)) (kk := 1) rfl) $$ HS; iintro HS
  iapply (ph_sig m K c 6 (i := 6) (j := 7) rfl rfl _ (Fin.ext (k0_dev7_eq c)) (kk := 1) rfl) $$ HS; iintro HS
  ihave ⟨-, -, HO⟩ := (Entails.of_eq (show sSig m K c 7 = iprop(per m K ∗ stage (sigA c) nothing 7 ∗ owe c (Ow c 7 0 0)) from rfl)) $$ HS
  iapply (wp_barwait m K c (kk := 7) rfl) $$ [Hcb Hpb HO]
  · isplitr; · iexact HI
    isplitr; · iexact Hl
    isplitl [Hcb]; · iexact Hcb
    isplitl [Hpb]; · iexact Hpb
    iexact HO
  iintro ⟨Hland, Hzb, HO⟩
  ihave ⟨Hlc, Hla⟩ := (open_landing c) $$ Hland
  ihave Hch := (open_ch c) $$ [Htc Hlc]
  · isplitl [Htc]; · iexact Htc
    iexact Hlc
  ihave ⟨⟨Hw0, Hw1, Hw2⟩, HW⟩ := (open_w m c) $$ [Hs2 Hzw HW]
  · isplitl [Hs2]; · iexact Hs2
    isplitl [Hzw]; · iexact Hzw
    iexact HW
  iapply (ph_start m c 0 (k := 0) rfl rfl (k0_off1_eq c 0 0) rfl) $$ Hw0; iintro Hw0
  iapply (ph_start m c 1 (k := 1) rfl rfl (k0_off1_eq c 0 1) rfl) $$ Hw1; iintro Hw1
  ihave Hx := (open_xb c) $$ Hs1
  ihave Hx := (stage_zero (xA c) (xB m c)) $$ Hx
  ihave HS := (Entails.of_eq (show iprop(per m K ∗ (∃ f, (c : Thread nD τ).loc cc0_scratch0 ↦[Finset.univ]{fullShare} f) ∗ semVal ((c : Thread nD τ), .dma xsem) 0
    ∗ ((c : Thread nD τ).loc main_arg0 ↦[Finset.univ]{fullShare} X m c) ∗ stage (xA c) (xB m c) 0 ∗ owe c (Ow c 7 0 0)) = sX m K c 0 from rfl)) $$ [Hs0 Hzx HX Hx HO]
  · isplitr; · iexact Hper
    isplitl [Hs0]; · iexact Hs0
    isplitl [Hzx]; · iexact Hzx
    isplitl [HX]; · iexact HX
    isplitl [Hx]; · iexact Hx
    iexact HO
  iapply (ph_x m K c 0 (a := 0) (b := 1) rfl rfl rfl rfl rfl (fun _ => rfl)) $$ HS; iintro HS
  iapply (ph_x m K c 1 (a := 1) (b := 2) rfl rfl rfl rfl rfl (fun _ => rfl)) $$ HS; iintro HS
  iapply (ph_x m K c 2 (a := 2) (b := 3) rfl rfl rfl rfl rfl (fun _ => rfl)) $$ HS; iintro HS
  iapply (ph_x m K c 3 (a := 3) (b := 4) rfl rfl rfl rfl rfl (fun _ => rfl)) $$ HS; iintro HS
  ihave ⟨-, Hs0, Hzx, HX, Hx, HO⟩ := (Entails.of_eq (show sX m K c 4 = iprop(per m K ∗ (∃ f, (c : Thread nD τ).loc cc0_scratch0 ↦[Finset.univ]{fullShare} f) ∗ semVal ((c : Thread nD τ), .dma xsem) 0
    ∗ ((c : Thread nD τ).loc main_arg0 ↦[Finset.univ]{fullShare} X m c) ∗ stage (xA c) (xB m c) 4 ∗ owe c (Ow c 7 0 0)) from rfl)) $$ HS
  ihave Hx := (stage_full (xA c) (xB m c)) $$ Hx
  ihave Hx := (close_xb m c) $$ Hx
  ihave Hy := (open_yb c) $$ Hs3
  ihave HS := (Entails.of_eq (show iprop(per m K ∗ (wFlyJ m c 0 ∗ wFlyJ m c 1 ∗ wFreeJ m c 2) ∗ ((c : Thread nD τ).loc cc0_scratch1 ↦[Finset.univ]{fullShare} XB m c)
    ∗ stage (yA c) nothing 0 ∗ stage (chA c) (chB c) 0 ∗ owe c (Ow c 7 0 0)) = sCh m K c 0 0 from rfl)) $$ [Hw0 Hw1 Hw2 Hx Hy Hch HO]
  · isplitr; · iexact Hper
    isplitl [Hw0 Hw1 Hw2]
    · isplitl [Hw0]; · iexact Hw0
      isplitl [Hw1]; · iexact Hw1
      iexact Hw2
    isplitl [Hx]; · iexact Hx
    isplitl [Hy]; · iexact Hy
    isplitl [Hch]; · iexact Hch
    iexact HO
  iapply (ph_chunk m K c 0 0 (a := 0) (b := 1) rfl rfl rfl (k0_off1_eq c 1 0) rfl rfl crW rfl (k0_off2_eq c 0) (fun _ _ => rfl)) $$ HS; iintro ⟨HS, Hy0⟩
  iapply (ph_chunk m K c 1 0 (a := 1) (b := 2) rfl rfl rfl (k0_off1_eq c 1 1) rfl rfl crW rfl (k0_off3_eq c 0) (fun _ _ => rfl)) $$ HS; iintro ⟨HS, Hy1⟩
  iapply (ph_chsend m K c 0 2 (a := 0) (b := 1) rfl rfl (y0 := 0) (y1 := 1) rfl rfl _ (Fin.ext (k0_dev8_eq c)) (sem11 _ _ rfl _ _) (sem12 _ _ (k0_off4_eq c) _ _) (k0_off6_eq c 0) (k0_off5_eq c)) $$ [HS Hy0 Hy1]
  · isplitl [HS]; · iexact HS
    isplitl [Hy0]; · iexact Hy0
    iexact Hy1
  iintro HS
  iapply (ph_chunk m K c 2 1 (a := 2) (b := 3) rfl rfl rfl (k0_off1_eq c 2 0) rfl rfl crW rfl (k0_off2_eq c 1) (fun _ _ => rfl)) $$ HS; iintro ⟨HS, Hy0⟩
  iapply (ph_chunk m K c 3 1 (a := 3) (b := 4) rfl rfl rfl (k0_off1_eq c 2 1) rfl rfl crW rfl (k0_off3_eq c 1) (fun _ _ => rfl)) $$ HS; iintro ⟨HS, Hy1⟩
  iapply (ph_chsend m K c 1 4 (a := 1) (b := 2) rfl rfl (y0 := 2) (y1 := 3) rfl rfl _ (Fin.ext (k0_dev9_eq c)) (sem11 _ _ rfl _ _) (sem12 _ _ (k0_off4_eq c) _ _) (k0_off6_eq c 1) (k0_off5_eq c)) $$ [HS Hy0 Hy1]
  · isplitl [HS]; · iexact HS
    isplitl [Hy0]; · iexact Hy0
    iexact Hy1
  iintro HS
  iapply (ph_chunk m K c 4 2 (a := 4) (b := 5) rfl rfl rfl (k0_off1_eq c 3 0) rfl rfl crW rfl (k0_off2_eq c 2) (fun _ _ => rfl)) $$ HS; iintro ⟨HS, Hy0⟩
  iapply (ph_chunk m K c 5 2 (a := 5) (b := 6) rfl rfl rfl (k0_off1_eq c 3 1) rfl rfl crW rfl (k0_off3_eq c 2) (fun _ _ => rfl)) $$ HS; iintro ⟨HS, Hy1⟩
  iapply (ph_chsend m K c 2 6 (a := 2) (b := 3) rfl rfl (y0 := 4) (y1 := 5) rfl rfl _ (Fin.ext (k0_dev10_eq c)) (sem11 _ _ rfl _ _) (sem12 _ _ (k0_off4_eq c) _ _) (k0_off6_eq c 2) (k0_off5_eq c)) $$ [HS Hy0 Hy1]
  · isplitl [HS]; · iexact HS
    isplitl [Hy0]; · iexact Hy0
    iexact Hy1
  iintro HS
  iapply (ph_chunk m K c 6 3 (a := 6) (b := 7) rfl rfl rfl (k0_off1_eq c 4 0) rfl rfl crW rfl (k0_off2_eq c 3) (fun _ _ => rfl)) $$ HS; iintro ⟨HS, Hy0⟩
  iapply (ph_chunk m K c 7 3 (a := 7) (b := 8) rfl rfl rfl (k0_off1_eq c 4 1) rfl rfl crW rfl (k0_off3_eq c 3) (fun _ _ => rfl)) $$ HS; iintro ⟨HS, Hy1⟩
  iapply (ph_chsend m K c 3 8 (a := 3) (b := 4) rfl rfl (y0 := 6) (y1 := 7) rfl rfl _ (Fin.ext (k0_dev11_eq c)) (sem11 _ _ rfl _ _) (sem12 _ _ (k0_off4_eq c) _ _) (k0_off6_eq c 3) (k0_off5_eq c)) $$ [HS Hy0 Hy1]
  · isplitl [HS]; · iexact HS
    isplitl [Hy0]; · iexact Hy0
    iexact Hy1
  iintro HS
  iapply (ph_chunk m K c 8 4 (a := 8) (b := 9) rfl rfl rfl (k0_off1_eq c 5 0) rfl rfl crW rfl (k0_off2_eq c 4) (fun _ _ => rfl)) $$ HS; iintro ⟨HS, Hy0⟩
  iapply (ph_chunk m K c 9 4 (a := 9) (b := 10) rfl rfl rfl (k0_off1_eq c 5 1) rfl rfl crW rfl (k0_off3_eq c 4) (fun _ _ => rfl)) $$ HS; iintro ⟨HS, Hy1⟩
  iapply (ph_chsend m K c 4 10 (a := 4) (b := 5) rfl rfl (y0 := 8) (y1 := 9) rfl rfl _ (Fin.ext (k0_dev12_eq c)) (sem11 _ _ rfl _ _) (sem12 _ _ (k0_off4_eq c) _ _) (k0_off6_eq c 4) (k0_off5_eq c)) $$ [HS Hy0 Hy1]
  · isplitl [HS]; · iexact HS
    isplitl [Hy0]; · iexact Hy0
    iexact Hy1
  iintro HS
  iapply (ph_chunk m K c 10 5 (a := 10) (b := 11) rfl rfl rfl (k0_off1_eq c 6 0) rfl rfl crW rfl (k0_off2_eq c 5) (fun _ _ => rfl)) $$ HS; iintro ⟨HS, Hy0⟩
  iapply (ph_chunk m K c 11 5 (a := 11) (b := 12) rfl rfl rfl (k0_off1_eq c 6 1) rfl rfl crW rfl (k0_off3_eq c 5) (fun _ _ => rfl)) $$ HS; iintro ⟨HS, Hy1⟩
  iapply (ph_chsend m K c 5 12 (a := 5) (b := 6) rfl rfl (y0 := 10) (y1 := 11) rfl rfl _ (Fin.ext (k0_dev13_eq c)) (sem11 _ _ rfl _ _) (sem12 _ _ (k0_off4_eq c) _ _) (k0_off6_eq c 5) (k0_off5_eq c)) $$ [HS Hy0 Hy1]
  · isplitl [HS]; · iexact HS
    isplitl [Hy0]; · iexact Hy0
    iexact Hy1
  iintro HS
  iapply (ph_chunk m K c 12 6 (a := 12) (b := 13) rfl rfl rfl (k0_off1_eq c 7 0) rfl rfl crW rfl (k0_off2_eq c 6) (fun _ _ => rfl)) $$ HS; iintro ⟨HS, Hy0⟩
  iapply (ph_chunk m K c 13 6 (a := 13) (b := 14) rfl rfl rfl (k0_off1_eq c 7 1) rfl rfl crW rfl (k0_off3_eq c 6) (fun _ _ => rfl)) $$ HS; iintro ⟨HS, Hy1⟩
  iapply (ph_chsend m K c 6 14 (a := 6) (b := 7) rfl rfl (y0 := 12) (y1 := 13) rfl rfl _ (Fin.ext (k0_dev14_eq c)) (sem11 _ _ rfl _ _) (sem12 _ _ (k0_off4_eq c) _ _) (k0_off6_eq c 6) (k0_off5_eq c)) $$ [HS Hy0 Hy1]
  · isplitl [HS]; · iexact HS
    isplitl [Hy0]; · iexact Hy0
    iexact Hy1
  iintro HS
  ihave ⟨-, ⟨Hw0, Hw1, Hw2⟩, Hx, Hy, Hch, HO⟩ := (Entails.of_eq (show sCh m K c 14 7 = iprop(per m K ∗ (wFlyJ m c 14 ∗ wFlyJ m c 15 ∗ wFreeJ m c 16) ∗ ((c : Thread nD τ).loc cc0_scratch1 ↦[Finset.univ]{fullShare} XB m c)
    ∗ stage (yA c) nothing 14 ∗ stage (chA c) (chB c) 7 ∗ owe c (Ow c 7 7 0)) from rfl)) $$ HS
  ihave ⟨Hy14, Hy15⟩ := (open_last c) $$ Hy
  iapply (ph_last m c 14 rfl crW rfl (k0_off2_eq c 7) (fun _ _ => rfl)) $$ [Hw0 Hx Hy14 HO]
  · isplitr; · iexact Hl
    isplitl [Hw0]; · iexact Hw0
    isplitl [Hx]; · iexact Hx
    isplitl [Hy14]; · iexact Hy14
    iexact HO
  iintro ⟨Hw0, Hx, Hy14, HO⟩
  iapply (ph_last m c 15 rfl crW rfl (k0_off3_eq c 7) (fun _ _ => rfl)) $$ [Hw1 Hx Hy15 HO]
  · isplitr; · iexact Hl
    isplitl [Hw1]; · iexact Hw1
    isplitl [Hx]; · iexact Hx
    isplitl [Hy15]; · iexact Hy15
    iexact HO
  iintro ⟨Hw1, Hx, Hy15, HO⟩
  ihave Hyc := (last_join m c) $$ [Hy14 Hy15]
  · isplitl [Hy14]; · iexact Hy14
    iexact Hy15
  iapply (wp_own m c rfl (k0_off5_eq c) (k0_off5_eq c)) $$ [Hyc Hr4 Hzo]
  · isplitl [Hyc]; · iexact Hyc
    isplitl [Hr4]; · iexact Hr4
    iexact Hzo
  iintro Hown
  iapply (wp_amstore m c (k0_off7_eq c) (amword m c)) $$ Hr5
  iintro Hr5
  ihave ⟨Hst, Hrd⟩ := (open_row m c) $$ [Hta Hr5 Hla]
  · isplitl [Hta]; · iexact Hta
    isplitl [Hr5]; · iexact Hr5
    iexact Hla
  ihave HS := (Entails.of_eq (show iprop(per m K ∗ stage (amA m c) (amB c) 0 ∗ owe c (Ow c 7 7 0)) = sAm m K c 0 from rfl)) $$ [Hst HO]
  · isplitr; · iexact Hper
    isplitl [Hst]; · iexact Hst
    iexact HO
  iapply (ph_amsend m K c 0 (a := 0) (b := 1) rfl rfl _ (Fin.ext (k0_dev15_eq c)) (sem9 _ _ rfl _ _) (sem10 _ _ (k0_off4_eq c) _ _) (k0_off8_eq c) (k0_off8_eq c)) $$ HS; iintro HS
  iapply (ph_amsend m K c 1 (a := 1) (b := 2) rfl rfl _ (Fin.ext (k0_dev16_eq c)) (sem9 _ _ rfl _ _) (sem10 _ _ (k0_off4_eq c) _ _) (k0_off8_eq c) (k0_off8_eq c)) $$ HS; iintro HS
  iapply (ph_amsend m K c 2 (a := 2) (b := 3) rfl rfl _ (Fin.ext (k0_dev17_eq c)) (sem9 _ _ rfl _ _) (sem10 _ _ (k0_off4_eq c) _ _) (k0_off8_eq c) (k0_off8_eq c)) $$ HS; iintro HS
  iapply (ph_amsend m K c 3 (a := 3) (b := 4) rfl rfl _ (Fin.ext (k0_dev18_eq c)) (sem9 _ _ rfl _ _) (sem10 _ _ (k0_off4_eq c) _ _) (k0_off8_eq c) (k0_off8_eq c)) $$ HS; iintro HS
  iapply (ph_amsend m K c 4 (a := 4) (b := 5) rfl rfl _ (Fin.ext (k0_dev19_eq c)) (sem9 _ _ rfl _ _) (sem10 _ _ (k0_off4_eq c) _ _) (k0_off8_eq c) (k0_off8_eq c)) $$ HS; iintro HS
  iapply (ph_amsend m K c 5 (a := 5) (b := 6) rfl rfl _ (Fin.ext (k0_dev20_eq c)) (sem9 _ _ rfl _ _) (sem10 _ _ (k0_off4_eq c) _ _) (k0_off8_eq c) (k0_off8_eq c)) $$ HS; iintro HS
  iapply (ph_amsend m K c 6 (a := 6) (b := 7) rfl rfl _ (Fin.ext (k0_dev21_eq c)) (sem9 _ _ rfl _ _) (sem10 _ _ (k0_off4_eq c) _ _) (k0_off8_eq c) (k0_off8_eq c)) $$ HS; iintro HS
  ihave ⟨-, Hst, HO⟩ := (Entails.of_eq (show sAm m K c 7 = iprop(per m K ∗ stage (amA m c) (amB c) 7 ∗ owe c (Ow c 7 7 7)) from rfl)) $$ HS
  ihave HO := (owe_end (F := F) c).1 $$ HO
  ihave Hcs := (stage_full (amA m c) (amB c)) $$ Hst
  ihave Hst := (open_wait m c 1 (peer c)) $$ [Hca Hp1]
  · isplitl [Hca]; · iexact Hca
    iexact Hp1
  ihave HS := (Entails.of_eq (show iprop(per m K ∗ stage (waitA c 1 (peer c)) (waitB m c 1 (peer c)) 0 ∗ owe c 0) = sW m K c 1 (peer c) 0 from rfl)) $$ [Hst HO]
  · isplitr; · iexact Hper
    isplitl [Hst]; · iexact Hst
    iexact HO
  iapply (ph_wait m K c 1 (peer c) 0 (a := 0) (b := 1) rfl rfl (used_recv 1 rfl c _ (rot_ne_val c _)) (sem10 _ _ (k0_off9_eq c 0) _ _) crA) $$ HS; iintro HS
  iapply (ph_wait m K c 1 (peer c) 1 (a := 1) (b := 2) rfl rfl (used_recv 1 rfl c _ (rot_ne_val c _)) (sem10 _ _ (k0_off9_eq c 1) _ _) crA) $$ HS; iintro HS
  iapply (ph_wait m K c 1 (peer c) 2 (a := 2) (b := 3) rfl rfl (used_recv 1 rfl c _ (rot_ne_val c _)) (sem10 _ _ (k0_off9_eq c 2) _ _) crA) $$ HS; iintro HS
  iapply (ph_wait m K c 1 (peer c) 3 (a := 3) (b := 4) rfl rfl (used_recv 1 rfl c _ (rot_ne_val c _)) (sem10 _ _ (k0_off9_eq c 3) _ _) crA) $$ HS; iintro HS
  iapply (ph_wait m K c 1 (peer c) 4 (a := 4) (b := 5) rfl rfl (used_recv 1 rfl c _ (rot_ne_val c _)) (sem10 _ _ (k0_off9_eq c 4) _ _) crA) $$ HS; iintro HS
  iapply (ph_wait m K c 1 (peer c) 5 (a := 5) (b := 6) rfl rfl (used_recv 1 rfl c _ (rot_ne_val c _)) (sem10 _ _ (k0_off9_eq c 5) _ _) crA) $$ HS; iintro HS
  iapply (ph_wait m K c 1 (peer c) 6 (a := 6) (b := 7) rfl rfl (used_recv 1 rfl c _ (rot_ne_val c _)) (sem10 _ _ (k0_off9_eq c 6) _ _) crA) $$ HS; iintro HS
  ihave ⟨-, Hst, HO⟩ := (Entails.of_eq (show sW m K c 1 (peer c) 7 = iprop(per m K ∗ stage (waitA c 1 (peer c)) (waitB m c 1 (peer c)) 7 ∗ owe c 0) from rfl)) $$ HS
  ihave Hrows := (stage_full (waitA c 1 (peer c)) (waitB m c 1 (peer c))) $$ Hst
  ihave Hst := (open_wait m c 0 Fin.succ) $$ [Hcs Hp0]
  · isplitl [Hcs]; · iexact Hcs
    iexact Hp0
  ihave HS := (Entails.of_eq (show iprop(per m K ∗ stage (waitA c 0 Fin.succ) (waitB m c 0 Fin.succ) 0 ∗ owe c 0) = sW m K c 0 Fin.succ 0 from rfl)) $$ [Hst HO]
  · isplitr; · iexact Hper
    isplitl [Hst]; · iexact Hst
    iexact HO
  iapply (ph_wait m K c 0 Fin.succ 0 (a := 0) (b := 1) rfl rfl (used_send c 0 rfl _) (sem9 _ _ rfl _ _) crA) $$ HS; iintro HS
  iapply (ph_wait m K c 0 Fin.succ 1 (a := 1) (b := 2) rfl rfl (used_send c 0 rfl _) (sem9 _ _ rfl _ _) crA) $$ HS; iintro HS
  iapply (ph_wait m K c 0 Fin.succ 2 (a := 2) (b := 3) rfl rfl (used_send c 0 rfl _) (sem9 _ _ rfl _ _) crA) $$ HS; iintro HS
  iapply (ph_wait m K c 0 Fin.succ 3 (a := 3) (b := 4) rfl rfl (used_send c 0 rfl _) (sem9 _ _ rfl _ _) crA) $$ HS; iintro HS
  iapply (ph_wait m K c 0 Fin.succ 4 (a := 4) (b := 5) rfl rfl (used_send c 0 rfl _) (sem9 _ _ rfl _ _) crA) $$ HS; iintro HS
  iapply (ph_wait m K c 0 Fin.succ 5 (a := 5) (b := 6) rfl rfl (used_send c 0 rfl _) (sem9 _ _ rfl _ _) crA) $$ HS; iintro HS
  iapply (ph_wait m K c 0 Fin.succ 6 (a := 6) (b := 7) rfl rfl (used_send c 0 rfl _) (sem9 _ _ rfl _ _) crA) $$ HS; iintro HS
  ihave ⟨-, Hst, HO⟩ := (Entails.of_eq (show sW m K c 0 Fin.succ 7 = iprop(per m K ∗ stage (waitA c 0 Fin.succ) (waitB m c 0 Fin.succ) 7 ∗ owe c 0) from rfl)) $$ HS
  ihave Hs := (stage_full (waitA c 0 Fin.succ) (waitB m c 0 Fin.succ)) $$ Hst
  ihave ⟨Hs5, Hz0, Hz1⟩ := (close_rows m c) $$ [Hs Hrows Hrd]
  · isplitl [Hs]; · iexact Hs
    isplitl [Hrows]; · iexact Hrows
    iexact Hrd
  iapply (wp_am m c) $$ Hs5; iintro Hs5
  iapply (wp_lwait c 7 7 7 (sem := osem) lvs_o (N := NC) crR) $$ [Hown HO]
  · isplitr; · iexact Hl
    isplitl [Hown]; · iexact Hown
    iapply (owe_end (F := F) c).2; iexact HO
  iintro ⟨⟨Hr4, Hyc⟩, Hzo, HO⟩
  ihave HO := (owe_end (F := F) c).1 $$ HO
  ihave ⟨Hoc, Hol⟩ := (open_out c) $$ Ho
  iapply (wp_qd m c c (k0_off11_eq c) (k0_off12_eq c) (fun _ => rfl)) $$ [Hr4 Hoc]
  · isplitl [Hr4]; · iexact Hr4
    iexact Hoc
  iintro ⟨Hr4, Hoc⟩
  ihave Hst := (open_recv m c) $$ [Hcc Hp3 Hol]
  · isplitr [Hol]
    · isplitl [Hcc]; · iexact Hcc
      iexact Hp3
    iexact Hol
  ihave HS := (Entails.of_eq (show iprop(per m K ∗ stage (qA c) (qB m c) 0 ∗ owe c 0) = sQ m K c 0 from rfl)) $$ [Hst HO]
  · isplitr; · iexact Hper
    isplitl [Hst]; · iexact Hst
    iexact HO
  iapply (ph_recv m K c 0 (a := 0) (b := 1) rfl rfl (sem12 _ _ (k0_off9_eq c 0) _ _) crR (k0_off13_eq c 0) (k0_off14_eq c 0) (fun _ => rfl)) $$ HS; iintro HS
  iapply (ph_recv m K c 1 (a := 1) (b := 2) rfl rfl (sem12 _ _ (k0_off9_eq c 1) _ _) crR (k0_off13_eq c 1) (k0_off14_eq c 1) (fun _ => rfl)) $$ HS; iintro HS
  iapply (ph_recv m K c 2 (a := 2) (b := 3) rfl rfl (sem12 _ _ (k0_off9_eq c 2) _ _) crR (k0_off13_eq c 2) (k0_off14_eq c 2) (fun _ => rfl)) $$ HS; iintro HS
  iapply (ph_recv m K c 3 (a := 3) (b := 4) rfl rfl (sem12 _ _ (k0_off9_eq c 3) _ _) crR (k0_off13_eq c 3) (k0_off14_eq c 3) (fun _ => rfl)) $$ HS; iintro HS
  iapply (ph_recv m K c 4 (a := 4) (b := 5) rfl rfl (sem12 _ _ (k0_off9_eq c 4) _ _) crR (k0_off13_eq c 4) (k0_off14_eq c 4) (fun _ => rfl)) $$ HS; iintro HS
  iapply (ph_recv m K c 5 (a := 5) (b := 6) rfl rfl (sem12 _ _ (k0_off9_eq c 5) _ _) crR (k0_off13_eq c 5) (k0_off14_eq c 5) (fun _ => rfl)) $$ HS; iintro HS
  iapply (ph_recv m K c 6 (a := 6) (b := 7) rfl rfl (sem12 _ _ (k0_off9_eq c 6) _ _) crR (k0_off13_eq c 6) (k0_off14_eq c 6) (fun _ => rfl)) $$ HS; iintro HS
  ihave ⟨-, Hst, HO⟩ := (Entails.of_eq (show sQ m K c 7 = iprop(per m K ∗ stage (qA c) (qB m c) 7 ∗ owe c 0) from rfl)) $$ HS
  ihave ⟨Hz3, Hl4, Hol⟩ := (close_recv m c) $$ Hst
  ihave Hcs := (stage_full (chA c) (chB c)) $$ Hch
  ihave Hst := (open_wait m c 2 Fin.succ) $$ [Hcs Hp2]
  · isplitl [Hcs]; · iexact Hcs
    iexact Hp2
  ihave HS := (Entails.of_eq (show iprop(per m K ∗ stage (waitA c 2 Fin.succ) (waitB m c 2 Fin.succ) 0 ∗ owe c 0) = sW m K c 2 Fin.succ 0 from rfl)) $$ [Hst HO]
  · isplitr; · iexact Hper
    isplitl [Hst]; · iexact Hst
    iexact HO
  iapply (ph_wait m K c 2 Fin.succ 0 (a := 0) (b := 1) rfl rfl (used_send c 2 rfl _) (sem11 _ _ rfl _ _) crY) $$ HS; iintro HS
  iapply (ph_wait m K c 2 Fin.succ 1 (a := 1) (b := 2) rfl rfl (used_send c 2 rfl _) (sem11 _ _ rfl _ _) crY) $$ HS; iintro HS
  iapply (ph_wait m K c 2 Fin.succ 2 (a := 2) (b := 3) rfl rfl (used_send c 2 rfl _) (sem11 _ _ rfl _ _) crY) $$ HS; iintro HS
  iapply (ph_wait m K c 2 Fin.succ 3 (a := 3) (b := 4) rfl rfl (used_send c 2 rfl _) (sem11 _ _ rfl _ _) crY) $$ HS; iintro HS
  iapply (ph_wait m K c 2 Fin.succ 4 (a := 4) (b := 5) rfl rfl (used_send c 2 rfl _) (sem11 _ _ rfl _ _) crY) $$ HS; iintro HS
  iapply (ph_wait m K c 2 Fin.succ 5 (a := 5) (b := 6) rfl rfl (used_send c 2 rfl _) (sem11 _ _ rfl _ _) crY) $$ HS; iintro HS
  iapply (ph_wait m K c 2 Fin.succ 6 (a := 6) (b := 7) rfl rfl (used_send c 2 rfl _) (sem11 _ _ rfl _ _) crY) $$ HS; iintro HS
  ihave ⟨-, Hst, HO⟩ := (Entails.of_eq (show sW m K c 2 Fin.succ 7 = iprop(per m K ∗ stage (waitA c 2 Fin.succ) (waitB m c 2 Fin.succ) 7 ∗ owe c 0) from rfl)) $$ HS
  ihave ⟨Hyl, Hz2⟩ := (close_sent m c) $$ Hst
  rw [wp_ret]
  ihave Hs3 := (close_yb m c) $$ [Hyc Hyl]
  · isplitl [Hyc]; · iexact Hyc
    iexact Hyl
  ihave Hs4 := (close_ybr m c) $$ [Hr4 Hl4]
  · isplitl [Hr4]; · iexact Hr4
    iexact Hl4
  ihave Ho := (close_out m c) $$ [Hoc Hol]
  · isplitl [Hoc]; · iexact Hoc
    iexact Hol
  ihave ⟨Hs2, Hzw, HW⟩ := (close_w m c) $$ [Hw0 Hw1 Hw2 HW]
  · isplitr [HW]
    · isplitl [Hw1]; · iexact Hw1
      isplitl [Hw2]; · iexact Hw2
      iexact Hw0
    iexact HW
  imod (close_unused m K c 0 0 (unused_send 0 c)) $$ [Hu0] with Hu0
  · isplitr; · iexact HI
    iexact Hu0
  imod (close_unused m K c 1 c (unused_recv 1 c)) $$ [Hu1] with Hu1
  · isplitr; · iexact HI
    iexact Hu1
  imod (close_unused m K c 2 0 (unused_send 2 c)) $$ [Hu2] with Hu2
  · isplitr; · iexact HI
    iexact Hu2
  imod (close_unused m K c 3 c (unused_recv 3 c)) $$ [Hu3] with Hu3
  · isplitr; · iexact HI
    iexact Hu3
  imodintro
  iapply Hpost
  isplitl [Hzb Hu0 Hz0 Hu1 Hz1 Hu2 Hz2 Hu3 Hz3]
  · unfold zrem
    isplitl [Hzb]; · iexact Hzb
    iapply (Entails.of_eq (entries c fun p => semVal (cell c p.1 p.2) 0).symm)
    isplitl [Hu0 Hz0]
    · isplitl [Hu0]; · iexact Hu0
      iexact Hz0
    isplitl [Hu1 Hz1]
    · isplitl [Hu1]; · iexact Hu1
      iexact Hz1
    isplitl [Hu2 Hz2]
    · isplitl [Hu2]; · iexact Hu2
      iexact Hz2
    isplitl [Hu3]; · iexact Hu3
    iexact Hz3
  isplitl [Hzx Hzw Hzo]
  · isplitl [Hzx]; · iexact Hzx
    isplitl [Hzw]; · iexact Hzw
    iexact Hzo
  isplitl [Hs0 Hx Hs2 Hs3 Hs4 Hs5]
  · isplitl [Hs0]; · iexact Hs0
    isplitl [Hx]; · iexists _; iexact Hx
    isplitl [Hs2]; · iexact Hs2
    isplitl [Hs3]; · iexists _; iexact Hs3
    isplitl [Hs4]; · iexists _; iexact Hs4
    iexists _; iexact Hs5
  isplitl [HX HW]
  · isplitl [HX]; · iexact HX
    iexact HW
  isplitl [Ho]; · iexact Ho
  iexact HO

end Body

end Cert.Qdq
end
-- ==== Proof.Run.lean ====
/-
The run of the whole program on the mesh: it ends, the arguments are unchanged, every counter is zero, and every device's result is
the stated value.
-/
module

public import proofs.«01_k».proof.Proof.Deal
public import proofs.«01_k».proof.Proof.Body
public import Idealize.ShloMosaic.Lib.Pipeline.CollectiveSegs

@[expose] public section

set_option maxRecDepth 16384

noncomputable section

namespace Cert.Qdq

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)
open Idealize.ShloMosaic.Pipeline (Dat BodyObligation)

/-! ## The launch's data -/

/-- What device `c`'s kernel starts from, but for its buffers: the ghost state, the credit, the levels, the operands. -/
def start (c : Dev nD) : sProp 𝕄 := iprop(G' m c ∗ creds c ∗ levAts L lv ∗ ops m c)
/-- What a device's call starts from. -/
def Φ₀ (c : Dev nD) : sProp 𝕄 := iprop(start m c ∗ scr c)
/-- What it leaves. -/
def Φ₁ (c : Dev nD) : sProp 𝕄 := iprop(zrem c ∗ zloc c ∗ scr c ∗ ops m c)

def dats (_ : Fin 1) (c : Dev nD) : Dat τ (Elt F) Unit ℕ UU ℕ cfg0 c where
  A w := m ((cfg0.win w).arr.view.loc (c : Thread nD τ))
  after w _ := match w with
    | ⟨0, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

omit [FloatOps F] in
theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- The staging buffer of the result, at contents `f`. -/
abbrev stg (c : Dev nD) (f : FVec F S4096x1024 .bf16) : sProp 𝕄 :=
  iprop(∃ g : Buf (Elt F) (((c : Dev nD) : Thread nD τ).loc cc0_stg0_0), ⌜g = f⌝ ∗ (((c : Thread nD τ).loc cc0_stg0_0) ↦{fullShare} g))

/-- What the body leaves. -/
def bodyPost (c : Dev nD) : sProp 𝕄 :=
  iprop(Φ₁ m c ∗ (dats m 0 c).owesAt () t0_0.succ ∗ stg c (OUT m c))
/-- What the body starts from. -/
def bodyPre (c : Dev nD) : sProp 𝕄 :=
  iprop(Φ₀ m c ∗ (dats m 0 c).owesAt () t0_0.castSucc ∗ (∃ d, stg c ((dats m 0 c).before (0 : Fin 1) t0_0 d)))

/-- The body, from what the call hands it to what the call wants back. -/
theorem body_from (c : Dev nD) :
    bodyPre m c ⊢ wp frame (wpE (defs₀ (F := F)) 𝒱₀ (c : Thread nD τ) none) Set.univ (body (F := F)) (fun _ => bodyPost m c) := by
  unfold bodyPre Φ₀ start G' Dat.owesAt Pipeline.owesWithin
  iintro ⟨⟨⟨⟨%K, #HI, Ht, Hp, Hz⟩, Hc, #Hl, Ho⟩, Hs⟩, ⟨%W, %hW, HO⟩, ⟨%d, %g, %hg, Hst⟩⟩
  rw [show (dats m 0 c).owed t0_0.castSucc = Ow c 0 0 0 from rfl]
  iapply (wp_body m K c (Q := fun _ => bodyPost m c)) $$ [Ht Hp Hz Hc Ho Hs HO Hst]
  · isplitr
    · isplitr; · iexact HI
      iexact Hl
    isplitl [Ht]; · iexact Ht
    isplitl [Hc]; · iexact Hc
    isplitl [Hp]; · iexact Hp
    isplitl [Hz]; · iexact Hz
    isplitl [Hs]; · iexact Hs
    isplitl [Ho]; · iexact Ho
    isplitl [Hst]; · iexists g; iexact Hst
    iexists W; iexact HO
  iintro ⟨Hzr, Hz, Hs, Ho, Hout, ⟨%W', HO⟩⟩
  unfold bodyPost Φ₁ Dat.owesAt Pipeline.owesWithin
  rw [show (dats m 0 c).owed t0_0.succ = 0 from rfl]
  isplitl [Hzr Hz Hs Ho]
  · isplitl [Hzr]; · iexact Hzr
    isplitl [Hz]; · iexact Hz
    isplitl [Hs]; · iexact Hs
    iexact Ho
  isplitl [HO]
  · iexists W'
    isplitr; · ipureintro; exact fun _ _ => Or.inl trivial
    iexact HO
  iexists _; isplitr; · (ipureintro; rfl)
  iexact Hout

/-- The body's obligation in the call. -/
theorem body_obligation (c : Dev nD) : BodyObligation (dats (F := F) m 0 c) (defs₀ (F := F)) 𝒱₀ () Set.univ := fun t => by
  rw [fin_N0 t]
  rw [bigSep_W0, bigSep_W0]
  simp only [owns_whole]
  exact body_from m c

/-- What the launch deals a device is what its call starts from. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hops, Hlev, Hcr, -, HG⟩
  ihave Hc := (creds_intro (F := F) c) $$ Hcr
  imodintro
  unfold start
  isplitl
  · isplitl [HG]; · iexact HG
    isplitl [Hc]; · iexact Hc
    isplitl [Hlev]; · iexact Hlev
    unfold ops; iexact Hops
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  unfold scr; iexact Hr

/-- What the call leaves is what the program's end wants. -/
theorem phi1_exit (c : Dev nD) :
    (dats m 0 c).Φ (Fin.last cfg0.N) ⊢ iprop((unscopedSems0 c ∗ ops m c) ∗ Pipeline.ownSems0 ownS c ∗ Pipeline.scopedRest cfg0.spec c) := by
  rw [show (dats m 0 c).Φ (Fin.last cfg0.N) = Φ₁ m c from rfl, scopedRest0_eq, ownSems0_eq, unscopedSems0_eq]
  unfold Φ₁ zrem
  iintro ⟨⟨Hb, Hr⟩, Hz, Hs, Ho⟩
  isplitl [Hb Ho]
  · isplitl [Hb]; · iexact Hb
    iexact Ho
  isplitl [Hr Hz]
  · isplitl [Hz]; · iexact Hz
    iexact Hr
  iapply (Entails.of_eq (show scr c = _ from by unfold scr; rfl)); iexact Hs

/-- The waits of the call itself are allowed. -/
theorem waits (c : Dev nD) : (levAts L lv : sProp 𝕄) ⊢ Pipeline.cellsWaits cfgs (dats m) () 0 c :=
  Pipeline.cellsWaits_intro cfgs (dats m) () 0 c fun w s t => by
    have hs : lvs (.dma ((cfg0.win w).sem s)) = 0 := by fin_cases w; fin_cases s; decide
    rcases t with ⟨_ | _, ht⟩
    · exact mayWait_low c _ hs 0 0 0
    · exact (mayWait_low c _ hs 7 7 7).trans (Entails.of_eq (by rw [Ow_end]; rfl))

/-! ## The run -/

/-- What the run leaves: the result on each device, the operands as they were. -/
def After (s : MemSt nD τ sig (Elt F)) : Prop := ∀ c : Dev nD,
  s.mem ((c : Thread nD τ).loc main_v1) = OUT m c
    ∧ s.mem ((c : Thread nD τ).loc main_arg0) = m ((c : Thread nD τ).loc main_arg0)
    ∧ s.mem ((c : Thread nD τ).loc main_arg1) = m ((c : Thread nD τ).loc main_arg1)

/-- The result ends holding the stated value. -/
theorem final_eq (c : Dev nD) : (dats m 0 c).arrAt (0 : Fin 1) cfg0.N = OUT m c := by
  have h : (win0_0.blk (0 : Fin 1)).view.read (Elt F) ((dats m 0 c).arrAt (0 : Fin 1) cfg0.N) = OUT m c := by
    rw [show cfg0.N = ((0 : Fin 1) : Fin cfg0.N).val + 1 from rfl, (dats m 0 c).arrAt_succ (0 : Fin 1) (0 : Fin 1)]
    rw [show (cfg0.win (0 : Fin 1)).flush (0 : Fin 1) = true from by decide, if_pos rfl]
    exact View.read_write_univ _ _
  have hz : (fun a => (win0_0.index (0 : Fin 1)) a * main_v1.ty.shape.size a) = fun _ => 0 := funext fun a => by fin_cases a <;> decide
  exact (Memref.read_access_unit_zero (Elt F) main_v1 hz (fun a => by fin_cases a <;> decide) _).symm.trans h

/-- The arguments are read off the final memory unchanged, and the counters at zero. -/
theorem read_ops (c : Dev nD) (s' : Phys nD τ sig (Elt F)) :
    iprop((unscopedSems0 c ∗ ops m c) ∗ emp ∗ SI s')
      ⊢ (|={Set.univ}=> iprop(⌜(∀ sm : SemLoc sig, sm.isScoped .tc = false → s'.mem.sem ((c.tc : Thread nD τ), sm) = 0)
        ∧ s'.mem.mem ((c : Thread nD τ).loc main_arg0) = m ((c : Thread nD τ).loc main_arg0)
        ∧ s'.mem.mem ((c : Thread nD τ).loc main_arg1) = m ((c : Thread nD τ).loc main_arg1)⌝ ∗ SI s') : sProp 𝕄) := by
  unfold ops
  iintro ⟨⟨Hu, H0, H1⟩, -, HSI⟩
  ihave %h0 := (SI_pointsTo_agree) $$ [HSI H0]
  · isplitl [HSI]; · iexact HSI
    iexact H0
  ihave %h1 := (SI_pointsTo_agree) $$ [HSI H1]
  · isplitl [HSI]; · iexact HSI
    iexact H1
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨hs, funext fun i => h0 i (Finset.mem_univ i), funext fun i => h1 i (Finset.mem_univ i)⟩
  iexact HSI

set_option maxRecDepth 8000 in
/-- From any memory with the semaphores at zero, on the eight devices, every fair execution ends; then each device holds
    its block of the result, the operands are unchanged, and every semaphore is at zero. -/
theorem run_main (ρ : Dev nD → PrngReg) :
    θ_run defs (onTc (τ := τ) (main (F := F))) ⟨m, fun _ => 0, ρ⟩ (fun r => After m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ ops m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := read_ops m)
    (hQ := fun _ h hs => ⟨fun c => ⟨((h c).1 0).trans (final_eq m c), (h c).2.2.2⟩, sem_eq_zero hs fun c => (h c).2.2.1⟩)

end Cert.Qdq
end
-- ==== Proof.Same.lean ====
module

public import proofs.«01_k».proof.Defs
public import proofs.«01_k».proof.Proof.Gen.Kernel
public import proofs.«01_k».proof.Proof.Gen.KernelIdeal

/-!
  The kernel and its ideal twin are the same program: nothing was rewritten between the two, so a run
  of one at the bit formats is a run of the other.
-/

@[expose] public section
noncomputable section

namespace Cert.Qdq
open Idealize.ShloMosaic Idealize.SL.Sem

/-- The two bodies are one text. -/
theorem body_same : Cert.Kernel.cc0_body (F := Bits) = Cert.KernelIdeal.cc0_body (F := Bits) := by
  unfold Cert.Kernel.cc0_body Cert.KernelIdeal.cc0_body
  with_unfolding_all rfl

/-- The two body tables agree: each has one label, and the bodies at it agree. -/
theorem table_same : Cert.Kernel.defs₀ (F := Bits) = Cert.KernelIdeal.defs₀ (F := Bits) := by
  refine congrArg Defs.onTc (funext fun l => funext fun a => ?_)
  match l, a with
  | 0, (t, s) => with_unfolding_all exact rfl

/-- So the two programs run the same definitions. -/
theorem defs_same : Cert.Kernel.defs (F := Bits) = Cert.KernelIdeal.defs (F := Bits) := by
  unfold Cert.Kernel.defs
  rw [table_same]
  rfl

end Cert.Qdq
-- ==== Proof.Value.lean ====
/-
What the kernel computes, over the reals: the chunks are pieces of the one product, the exchanged maxima are the largest
magnitude of that product, and the quantized blocks are the reference's.
-/
module

public import proofs.«01_k».proof.Proof.Base
public import proofs.«01_k».proof.Proof.Gen.ReferenceIdeal.Run
public import Idealize.ShloMosaic.PureOps.Ideal.Laws
public import Idealize.ShloMosaic.PureOps.Reduce
public import Idealize.ShloMosaic.Lib.MatmulPlain
public import Idealize.ShloMosaic.Lib.StackMember
public import Idealize.ShloMosaic.Lib.KernelVsHost
public import Idealize.ShloMosaic.Lib.IdealHost
public import Idealize.ShloMosaic.Lib.Layout
public import Idealize.ShloMosaic.Lib.Pipeline.Value

@[expose] public section

set_option backward.proofsInPublic true

noncomputable section

namespace Cert.Qdq

open Cert.KernelIdeal Cert.KernelIdeal.Gen
open Idealize.ShloMosaic
open Idealize.ShloMosaic.TcCoe
open Idealize.ShloMosaic.ValueIdx
open Idealize.SL.Sem
open scoped BigOperators

/-! ## The quantization of one element -/

/-- What the kernel makes of an element `y` of the product, `g` being the largest magnitude. -/
def quantK (g y : EReal) : EReal :=
  min (Ideal.ofBits .f32 0x42FE0000#32) (max (Ideal.ofBits .f32 0xC2FE0000#32)
    (Ideal.liftRound Ideal.roundHalfEven (y * Ideal.div (Ideal.ofBits .f32 0x42FE0000#32) g))) * Ideal.div g (Ideal.ofBits .f32 0x42FE0000#32)

/-- What the reference makes of it. -/
def quantR (g y : EReal) : EReal :=
  min (Ideal.ofBits .f32 0x42FE0000#32) (max (Ideal.ofBits .f32 0xC2FE0000#32)
    (Ideal.liftRound Ideal.roundHalfEven (Ideal.div y (Ideal.div g (Ideal.ofBits .f32 0x42FE0000#32))))) * Ideal.div g (Ideal.ofBits .f32 0x42FE0000#32)

/-- The literal 127. -/
theorem ofBits_127 : Ideal.ofBits .f32 0x42FE0000#32 = ((127 : ℝ) : EReal) := by
  simp [Ideal.ofBits, Ideal.ieee, -EReal.coe_mul]; norm_num

/-- The word of −∞ is the least extended real. -/
theorem ofBits_negInf : Ideal.ofBits .f32 0xFF800000#32 = (⊥ : EReal) := by
  simp [Ideal.ofBits, Ideal.ieee]

/-- Zero over anything but zero is zero. -/
theorem zero_div_of_ne {y : EReal} (h : y ≠ 0) : Ideal.div 0 y = 0 := by
  unfold Ideal.div
  rw [if_neg h, zero_mul]

/-- The two agree at every `y` and `g`: scaling by `127 / g` is dividing by `g / 127` unless `g` is zero, and then the
    scale both are multiplied by in the end is zero. -/
theorem quant_eq (g y : EReal) : quantK g y = quantR g y := by
  unfold quantK quantR
  rw [ofBits_127]
  have h127 : ((127 : ℝ) : EReal) ≠ 0 := by norm_num
  by_cases hg : g = 0
  · subst hg
    rw [zero_div_of_ne h127, mul_zero, mul_zero]
  · have hi : (((127 : ℝ) : EReal))⁻¹ ≠ 0 := by
      rw [← EReal.coe_inv]; norm_num
    have hd : Ideal.div g ((127 : ℝ) : EReal) = g * (((127 : ℝ) : EReal))⁻¹ := by unfold Ideal.div; rw [if_neg h127]
    have hne : g * (((127 : ℝ) : EReal))⁻¹ ≠ 0 := mul_ne_zero hg hi
    have he : y * Ideal.div ((127 : ℝ) : EReal) g = Ideal.div y (Ideal.div g ((127 : ℝ) : EReal)) := by
      rw [hd]
      unfold Ideal.div
      rw [if_neg hg, if_neg hne, EReal.mul_inv, ← EReal.coe_inv, ← EReal.coe_inv, inv_inv, mul_comm g⁻¹]
    rw [he]

/-! ## A maximum over everything -/

/-- A kernel's maximum over all of an array is below `z` exactly when every element is. -/
theorem multiMax_le {s t : Shape} {axes : List (Fin s.rank)} (src : FVec Ideal s .f32) (h : s.Reduces axes t) (hφ)
    (hacc) (ht : ∀ a, t.size a = 1) (j : t.Idx) (z : EReal) :
    (multiReduction .maximumf axes t src 0xFF800000#32 h hφ hacc j : EReal) ≤ z ↔ ∀ i, (src i : EReal) ≤ z := by
  rw [multiReduction_maximumf_eq_fold]
  refine (Finset.fold_max_le (β := EReal) z).trans ⟨fun H i => H.2 i (Finset.mem_filter.2 ⟨Finset.mem_univ _, ?_⟩), fun H => ⟨?_, fun i _ => H i⟩⟩
  · funext b
    refine Fin.ext ?_
    have h1 := (h.drop i b).isLt
    have h2 := (j b).isLt
    have h3 := ht b
    omega
  · exact ofBits_negInf.le.trans bot_le

/-- So is the reference's. -/
theorem hostMax_le {s t u : Shape} {axes : List (Fin s.rank)} (src : FVec Ideal s .f32) (h : s.ReducesTo axes t)
    (hu : 0 < u.numel) (ht : ∀ a, t.size a = 1) (j : t.Idx) (z : EReal) :
    (Host.reduce (FloatOps.maximumf (F := Ideal) (φ := .f32)) src (constant u .f32 0xFF800000#32 : FVec Ideal u .f32) h hu j : EReal) ≤ z ↔ ∀ i, (src i : EReal) ≤ z := by
  rw [Host.reduce_eq_fold]
  refine (Finset.fold_max_le (β := EReal) z).trans ⟨fun H i => H.2 i (Finset.mem_filter.2 ⟨Finset.mem_univ _, ?_⟩), fun H => ⟨?_, fun i _ => H i⟩⟩
  · funext b
    refine Fin.ext ?_
    have h1 := (h.drop i b).isLt
    have h2 := (j b).isLt
    have h3 := ht b
    omega
  · exact ofBits_negInf.le.trans bot_le

/-- Reshaping an array leaves its elements. -/
theorem shapeCast_forall {s t : Shape} {α : Type} (x : s.Idx → α) (h : s.ShapeCasts t) (p : α → Prop) :
    (∀ i, p (shapeCast t x h i)) ↔ ∀ i, p (x i) := by
  refine ⟨fun H i => ?_, fun H i => H _⟩
  have h' := H ((Shape.reshapeEquiv h).symm i)
  unfold shapeCast at h'
  rwa [Equiv.apply_symm_apply] at h'

/-- The magnitude of an extended real. -/
abbrev mag (a : EReal) : EReal := max a (-a)

/-- A magnitude is not negative. -/
theorem mag_nonneg (a : EReal) : 0 ≤ mag a := by
  rcases le_total 0 a with h | h
  · exact h.trans (le_max_left _ _)
  · exact (EReal.neg_nonneg.2 h).trans (le_max_right _ _)

/-- The maximum of an array's magnitudes as the kernel takes it: reshaped, reduced to one element, that element read. -/
theorem maxAt_le {s t r u : Shape} {axes : List (Fin t.rank)} (x : FVec Ideal s .f32) (hst : s.ShapeCasts t)
    (h : t.Reduces axes r) (hφ) (hacc) (hru : r.ShapeCasts u) (hr : ∀ a, r.size a = 1) (pos : Fin u.rank → ℕ)
    (hpos : ∀ a, pos a < u.size a) (z : EReal) :
    (extractAt pos (shapeCast u (multiReduction .maximumf axes r (shapeCast t x hst) 0xFF800000#32 h hφ hacc) hru) hpos : EReal) ≤ z
      ↔ ∀ i, (x i : EReal) ≤ z :=
  (multiMax_le (shapeCast t x hst) h hφ hacc hr _ z).trans (shapeCast_forall x hst fun a : EReal => a ≤ z)

theorem size_S1 (a : Fin S1.rank) : S1.size a = 1 := by
  match a with
  | ⟨0, _⟩ => rfl

/-- The largest magnitude of a chunk, as the kernel takes it. -/
def chunkMax {F : FTy → Type} [FloatOps F] (y : FVec F S512x512 .f32) : F .f32 :=
  extractAt ![0, 0, 0] (shapeCast S1x1x1 (multiReduction .maximumf [1, 2] S1 (shapeCast S1x512x512 (absf y) shapeCasts_S512x512_S1x512x512)
    0xFF800000#32 reduces_S1x512x512_S1 (.inl rfl) rfl) shapeCasts_S1_S1x1x1) inpos_S1x1x1_p0_0_0

/-- A chunk's maximum is below `z` when each of its magnitudes is. -/
theorem chunkMax_le (y : FVec Ideal S512x512 .f32) (z : EReal) : (chunkMax y : EReal) ≤ z ↔ ∀ i, mag (y i) ≤ z := by
  unfold chunkMax
  exact maxAt_le (absf y) shapeCasts_S512x512_S1x512x512 reduces_S1x512x512_S1 (.inl rfl) rfl shapeCasts_S1_S1x1x1 size_S1 _ inpos_S1x1x1_p0_0_0 z

/-- The first chunk's maximum, as the body computes it. -/
theorem pay7_eq {F : FTy → Type} [FloatOps F] (y : FVec F S512x512 .f32) :
    k0_pay7 y = Scalar.maximumf (Scalar.ofBits .f32 0x00000000#32) (chunkMax y) := rfl

/-- A later chunk's maximum, as the body folds it into the running one. -/
theorem pay10_eq {F : FTy → Type} [FloatOps F] (a : F .f32) (v : FVec F S512x4096 .bf16) (w : FVec F S1x4096x512 .f32) :
    k0_pay10 a v w = Scalar.maximumf a (chunkMax (k0_pay8 v w)) := rfl

/-- The first chunk's maximum, from zero. -/
theorem pay7_le (y : FVec Ideal S512x512 .f32) (z : EReal) :
    (k0_pay7 (F := Ideal) y : EReal) ≤ z ↔ 0 ≤ z ∧ ∀ i, mag (y i) ≤ z := by
  rw [pay7_eq, Ideal.scalar_maximumf_def, ← chunkMax_le, ← Ideal.ofBits_zero_f32]
  exact max_le_iff

/-- A later chunk's maximum, with what came before. -/
theorem pay10_le (a : Ideal .f32) (v : FVec Ideal S512x4096 .bf16) (w : FVec Ideal S1x4096x512 .f32) (z : EReal) :
    (k0_pay10 (F := Ideal) a v w : EReal) ≤ z ↔ (a : EReal) ≤ z ∧ ∀ i, mag (k0_pay8 (F := Ideal) v w i) ≤ z := by
  rw [pay10_eq, Ideal.scalar_maximumf_def, ← chunkMax_le]
  exact max_le_iff

/-- The maximum over all the devices' maxima. -/
theorem pay58_le (am : FVec Ideal S8x8x128 .f32) (z : EReal) :
    (k0_pay58 (F := Ideal) am : EReal) ≤ z ↔ ∀ i, (am i : EReal) ≤ z := by
  unfold k0_pay58
  exact maxAt_le am shapeCasts_S8x8x128_S1x8x8x128 reduces_S1x8x8x128_S1 (.inl rfl) rfl shapeCasts_S1_S1x1x1x1 size_S1 _ inpos_S1x1x1x1_p0_0_0_0 z

/-! ## The product -/

/-- An entry of the whole product. -/
def prod (x : FVec Ideal Cert.ReferenceIdeal.S4096x4096 .f32) (w : FVec Ideal S4096x8192 .f32) (r : Fin 4096) (q : Fin 8192) : EReal :=
  ∑ k : Fin 4096, x (ix2 r k) * w (ix2 k q)

/-- The kernel's product of one chunk, at an entry. -/
theorem pay8_apply (v : FVec Ideal S512x4096 .bf16) (w : FVec Ideal S1x4096x512 .f32) (r : Fin 512) (q : Fin 512) :
    (k0_pay8 (F := Ideal) v w (ix2 r q) : EReal) = ∑ k : Fin 4096, v (ix2 r k) * w (ix3 (n0 := 1) 0 k q) := by
  unfold k0_pay8
  refine (Ideal.matmul_plain_apply none v _ _ r q).trans ?_
  refine (congrArg₂ (· + ·) Ideal.ofBits_zero_f32 rfl).trans ((zero_add _).trans ?_)
  refine Finset.sum_congr rfl fun k _ => congrArg (v (ix2 r k) * ·) ?_
  refine (shapeCast_dropUnit_apply ![4096, 512] w shapeCasts_S1x4096x512_S4096x512 (ix2 k q)).trans (congrArg w ?_)
  funext a
  match a with
  | ⟨0, _⟩ => rfl
  | ⟨1, _⟩ => rfl
  | ⟨2, _⟩ => rfl

/-- The narrowed left operand is the left operand. -/
theorem XB_apply (m : (ℓ : Loc nD τ sig) → Buf (Elt Ideal) ℓ) (c : Dev nD) (r : Fin 512) (k : Fin 4096) :
    (XB m c (ix2 r k) : EReal) = X m c (ix2 r k) := by
  unfold XB k0_pay1
  dsimp only
  rw [shapeCast_self]
  show (X m c (ix2 r ⟨1024 * (k.val / 1024) + k.val % 1024, _⟩) : EReal) = X m c (ix2 r k)
  exact congrArg (fun k' => (X m c (ix2 r k') : EReal)) (Fin.ext (Nat.div_add_mod k.val 1024))

/-- The kernel's quantization of a block, at an entry. -/
theorem pay63_apply (a b : Ideal .bf16) (v : FVec Ideal S1x512x1024 .bf16) (r : Fin 512) (q : Fin 1024) :
    (k0_pay63 (F := Ideal) a b v (ix2 r q) : EReal)
      = min (Ideal.ofBits .f32 0x42FE0000#32) (max (Ideal.ofBits .f32 0xC2FE0000#32)
          (Ideal.liftRound Ideal.roundHalfEven ((v (ix3 (n0 := 1) 0 r q) : EReal) * a))) * b := by
  have e : shapeCast S512x1024 v shapeCasts_S1x512x1024_S512x1024 (ix2 r q) = v (ix3 (n0 := 1) 0 r q) := by
    refine (shapeCast_dropUnit_apply ![512, 1024] v shapeCasts_S1x512x1024_S512x1024 (ix2 r q)).trans (congrArg v ?_)
    funext a
    match a with
    | ⟨0, _⟩ => rfl
    | ⟨1, _⟩ => rfl
    | ⟨2, _⟩ => rfl
  rw [← e]
  unfold k0_pay63
  generalize shapeCast S512x1024 v shapeCasts_S1x512x1024_S512x1024 = y
  simp only [mulf, minimumf, maximumf, roundeven, broadcast, Ideal.mulf_def, Ideal.minimumf_def, Ideal.maximumf_def, Ideal.roundeven_def,
    Ideal.scalar_truncf_def, Ideal.ofBits_def]

/-- The factor the kernel scales by. -/
theorem pay59_eq (am : FVec Ideal S8x8x128 .f32) :
    (k0_pay59 (F := Ideal) am : EReal) = Ideal.div (Ideal.ofBits .f32 0x42FE0000#32) (k0_pay58 (F := Ideal) am) := by
  unfold k0_pay59
  dsimp only
  rw [Ideal.scalar_truncf_def, Ideal.scalar_divf_def]
  rfl

/-- The factor it scales back by. -/
theorem pay60_eq (am : FVec Ideal S8x8x128 .f32) :
    (k0_pay60 (F := Ideal) am : EReal) = Ideal.div (k0_pay58 (F := Ideal) am) (Ideal.ofBits .f32 0x42FE0000#32) := by
  unfold k0_pay60
  dsimp only
  rw [Ideal.scalar_truncf_def, Ideal.scalar_divf_def]
  rfl

section Entries
variable (m : (ℓ : Loc nD τ sig) → Buf (Elt Ideal) ℓ)
  (x : FVec Ideal Cert.ReferenceIdeal.S4096x4096 .f32) (w : FVec Ideal S4096x8192 .f32)
  (hX : ∀ (c : Dev nD) (r : Fin 512) (k : Fin 4096), (X m c (ix2 r k) : EReal)
    = x (ix2 (n0 := 4096) (n1 := 4096) ⟨512 * c.val + r.val, by have h : c.val < 8 := c.isLt; have := r.isLt; omega⟩ k))
  (hW : ∀ c, Wt m c = w)
include hX hW

/-- A chunk of the kernel's product is a piece of the whole product. -/
theorem chunk_apply (c s : Dev nD) (h : Fin 2) (r q : Fin 512) :
    (k0_pay8 (F := Ideal) (XB m c) (Wc m c s h) (ix2 r q) : EReal)
      = prod x w ⟨512 * c.val + r.val, by have h : c.val < 8 := c.isLt; have := r.isLt; omega⟩
        ⟨1024 * s.val + 512 * h.val + q.val, by have h8 : s.val < 8 := s.isLt; have := h.isLt; have := q.isLt; omega⟩ := by
  rw [pay8_apply]
  unfold prod
  refine Finset.sum_congr rfl fun k _ => ?_
  rw [XB_apply, hX]
  unfold Wc
  rw [hW]

/-- What device `c` receives: its columns of the product. -/
theorem YBR_apply (c s : Dev nD) (r : Fin 512) (q : Fin 1024) :
    (YBR m c (ix3 (n0 := 8) (n1 := 512) (n2 := 1024) s r q) : EReal)
      = prod x w ⟨512 * s.val + r.val, by have h : s.val < 8 := s.isLt; have := r.isLt; omega⟩
        ⟨1024 * c.val + q.val, by have h8 : c.val < 8 := c.isLt; have := q.isLt; omega⟩ := by
  unfold YBR YB k0_pay9
  dsimp only
  refine (shapeCast_addUnit_apply ![512, 512] _ shapeCasts_S512x512_S1x512x512 _).trans ?_
  refine Eq.trans (congrArg (k0_pay8 (F := Ideal) (XB m s) (Wc m s c ⟨q.val / 512, _⟩)) (?_ : _ = ix2 r ⟨q.val % 512, Nat.mod_lt _ (by decide)⟩)) ?_
  · funext a
    match a with
    | ⟨0, _⟩ => rfl
    | ⟨1, _⟩ => rfl
  · refine (chunk_apply m x w hX hW s c _ r _).trans (congrArg (prod x w _) (Fin.ext ?_))
    show 1024 * c.val + 512 * (q.val / 512) + q.val % 512 = 1024 * c.val + q.val
    omega

omit hX hW in
/-- The running maximum, after chunk `n`. -/
theorem mx_le (c : Dev nD) (n : ℕ) (z : EReal) :
    (mx m c n : EReal) ≤ z ↔ 0 ≤ z ∧ ∀ j ≤ n, ∀ i, mag (k0_pay8 (F := Ideal) (XB m c) (Wj m c j) i) ≤ z := by
  induction n with
  | zero =>
    unfold mx
    rw [pay7_le]
    exact and_congr Iff.rfl ⟨fun H j hj => by rw [Nat.le_zero.1 hj]; exact H, fun H => H 0 le_rfl⟩
  | succ n ih =>
    unfold mx
    rw [pay10_le, ih, and_assoc]
    refine and_congr Iff.rfl ⟨fun H j hj => ?_, fun H => ⟨fun j hj => H j (Nat.le_succ_of_le hj), H (n + 1) le_rfl⟩⟩
    rcases Nat.le_succ_iff.1 hj with h | h
    · exact H.1 j h
    · rw [h]; exact H.2

/-- The maximum of the exchanged maxima is the largest magnitude of the product. -/
theorem top_le (z : EReal) :
    (k0_pay58 (F := Ideal) (AM m) : EReal) ≤ z ↔ ∀ r q, mag (prod x w r q) ≤ z := by
  rw [pay58_le]
  constructor
  · intro H r q
    have hr := r.isLt
    have hq := q.isLt
    have h1 := ((mx_le m ⟨r.val / 512, by show _ < 8; omega⟩ 15 z).1 (H (ix3 (n0 := 8) (n1 := 8) (n2 := 128) ⟨r.val / 512, by omega⟩ 0 0))).2
      (2 * ((q.val / 1024 + 15 - r.val / 512) % 8) + q.val / 512 % 2) (by omega)
      (ix2 (n0 := 512) (n1 := 512) ⟨r.val % 512, Nat.mod_lt _ (by decide)⟩ ⟨q.val % 512, Nat.mod_lt _ (by decide)⟩)
    unfold Wj at h1
    rw [chunk_apply m x w hX hW] at h1
    refine (Eq.le (congrArg₂ (fun a b => mag (prod x w a b)) (Fin.ext ?_) (Fin.ext ?_))).trans h1
    · show r.val = 512 * (r.val / 512) + r.val % 512
      omega
    · show q.val = 1024 * ((r.val / 512 + ((2 * ((q.val / 1024 + 15 - r.val / 512) % 8) + q.val / 512 % 2) / 2 + 1)) % 8)
        + 512 * ((2 * ((q.val / 1024 + 15 - r.val / 512) % 8) + q.val / 512 % 2) % 2) + q.val % 512
      omega
  · intro H i
    refine (mx_le m (i 0) 15 z).2 ⟨(mag_nonneg _).trans (H 0 0), fun j _ a => ?_⟩
    rw [eq_ix2 (n0 := 512) (n1 := 512) a]
    exact (Eq.le (congrArg mag (chunk_apply m x w hX hW (i 0) _ _ (a 0) (a 1)))).trans (H _ _)

/-- The result on device `c`, at an entry. -/
theorem OUT_apply (c : Dev nD) (r : Fin 4096) (q : Fin 1024) :
    (OUT m c (ix2 r q) : EReal)
      = quantK (k0_pay58 (F := Ideal) (AM m)) (prod x w r ⟨1024 * c.val + q.val, by have h8 : c.val < 8 := c.isLt; have := q.isLt; omega⟩) := by
  have hr := r.isLt
  have e : (YBR m c (ix3 (n0 := 8) (n1 := 512) (n2 := 1024) ⟨r.val / 512, by omega⟩ ⟨r.val % 512, Nat.mod_lt _ (by decide)⟩ q) : EReal)
      = prod x w r ⟨1024 * c.val + q.val, by have h8 : c.val < 8 := c.isLt; have := q.isLt; omega⟩ := by
    rw [YBR_apply m x w hX hW]
    exact congrArg (fun r' => prod x w r' _) (Fin.ext (Nat.div_add_mod r.val 512))
  unfold OUT
  refine (pay63_apply _ _ _ _ _).trans ?_
  rw [pay59_eq, pay60_eq, ← e]
  unfold quantK
  rfl

end Entries

end Cert.Qdq
-- ==== Proof.Reference.lean ====
/-
The reference's result, entry by entry, and the equation of the two: device `c`'s result is the reference's columns `c`.
-/
module

public import proofs.«01_k».proof.Proof.Value

@[expose] public section

noncomputable section

namespace Cert.Qdq

open Cert.ReferenceIdeal Cert.ReferenceIdeal.Gen
open Idealize.ShloMosaic
open Idealize.ShloMosaic.TcCoe
open Idealize.ShloMosaic.ValueIdx
open Idealize.SL.Sem
open scoped BigOperators

/-- The reference's product. -/
def refY (x : FVec Ideal S4096x4096 .f32) (w : FVec Ideal S4096x8192 .f32) : FVec Ideal S4096x8192 .f32 :=
  Host.dotGeneral dot_S4096x4096_S4096x8192_S4096x8192_1_0_0_1_n_n none x w

/-- Its largest magnitude. -/
def refTop (y : FVec Ideal S4096x8192 .f32) : FVec Ideal S_ .f32 :=
  Host.reduce FloatOps.maximumf (Host.absf y) (constant S_ .f32 0xFF800000#32) reducesTo_S4096x8192_S_d0_1 h_S_

/-- The scale. -/
def refScale (y : FVec Ideal S4096x8192 .f32) : FVec Ideal S4096x8192 .f32 :=
  broadcastInDim S4096x8192 ![] bcast_S_S4096x8192 (Host.divf (refTop y) (constant S_ .f32 0x42FE0000#32))

/-- A literal over the whole array. -/
def refLit (b : BitVec 32) : FVec Ideal S4096x8192 .f32 :=
  broadcastInDim S4096x8192 ![] bcast_S_S4096x8192 (id (constant S_ .f32 b))

/-- The reference's result. -/
def refOut (x : FVec Ideal S4096x4096 .f32) (w : FVec Ideal S4096x8192 .f32) : FVec Ideal S4096x8192 .bf16 :=
  truncf .bf16 (mulf (minimumf (refLit 0x42FE0000#32) (maximumf (refLit 0xC2FE0000#32)
    (Host.roundeven (Host.divf (refY x w) (refScale (refY x w)))))) (refScale (refY x w))) bitsLt_bf16_f32

/-- An entry of the reference's product is the sum of products. -/
theorem refY_apply (x : FVec Ideal S4096x4096 .f32) (w : FVec Ideal S4096x8192 .f32) (r : Fin 4096) (q : Fin 8192) :
    (refY x w (ix2 r q) : EReal) = prod x w r q := by
  unfold refY prod
  exact StackMember.dotGeneral_plain_apply none x w r q

/-- The reference's largest magnitude is below `z` when each magnitude of the product is. -/
theorem refTop_le (x : FVec Ideal S4096x4096 .f32) (w : FVec Ideal S4096x8192 .f32) (z : EReal) :
    (refTop (refY x w) ix0 : EReal) ≤ z ↔ ∀ r q, mag (prod x w r q) ≤ z := by
  unfold refTop
  refine (hostMax_le (Host.absf (refY x w)) reducesTo_S4096x8192_S_d0_1 h_S_ (fun a => a.elim0) ix0 z).trans
    ⟨fun H r q => ?_, fun H i => ?_⟩
  · rw [← refY_apply]
    exact H (ix2 r q)
  · rw [eq_ix2 (n0 := 4096) (n1 := 8192) i]
    exact (Eq.le (congrArg mag (refY_apply x w (i 0) (i 1)))).trans (H (i 0) (i 1))

/-- The reference's scale, the same at every entry. -/
theorem refScale_apply (y : FVec Ideal S4096x8192 .f32) (j : S4096x8192.Idx) :
    (refScale y j : EReal) = Ideal.div (refTop y ix0) (Ideal.ofBits .f32 0x42FE0000#32) := by
  unfold refScale
  rw [broadcastInDim_scalar_apply]
  rfl

/-- A literal of the reference, the same at every entry. -/
theorem refLit_apply (b : BitVec 32) (j : S4096x8192.Idx) : (refLit b j : EReal) = Ideal.ofBits .f32 b := by
  unfold refLit
  rw [broadcastInDim_scalar_apply]
  rfl

/-- An entry of the reference's result: the product's entry, quantized by the largest magnitude. -/
theorem refOut_apply (x : FVec Ideal S4096x4096 .f32) (w : FVec Ideal S4096x8192 .f32) (r : Fin 4096) (q : Fin 8192) :
    (refOut x w (ix2 r q) : EReal) = quantR (refTop (refY x w) ix0) (prod x w r q) := by
  unfold refOut quantR
  simp only [truncf, mulf, minimumf, maximumf, Ideal.truncf_def, Ideal.mulf_def, Ideal.minimumf_def, Ideal.maximumf_def]
  rw [refLit_apply, refLit_apply, refScale_apply]
  simp only [Host.roundeven, Host.divf, Ideal.hostUnary_roundeven_def, Ideal.hostDivf_def]
  rw [refScale_apply, refY_apply]

/-- Device `c`'s result is column block `c` of the reference's. -/
theorem value_eq (m : (ℓ : Loc Cert.KernelIdeal.nD Cert.KernelIdeal.τ Cert.KernelIdeal.sig) → Buf (Elt Ideal) ℓ)
    (x : FVec Ideal S4096x4096 .f32) (w : FVec Ideal S4096x8192 .f32)
    (hX : ∀ c, X m c = Layout.block ⟨2, ![512, 4096]⟩ ⟨2, ![4096, 4096]⟩ 0 8 c x) (hW : ∀ c, Wt m c = w) (c : Dev Cert.KernelIdeal.nD) :
    OUT m c = Layout.block ⟨2, ![4096, 1024]⟩ ⟨2, ![4096, 8192]⟩ 1 8 c (refOut x w) := by
  have hX' : ∀ (c : Dev Cert.KernelIdeal.nD) (r : Fin 512) (k : Fin 4096), (X m c (ix2 r k) : EReal)
      = x (ix2 (n0 := 4096) (n1 := 4096) ⟨512 * c.val + r.val, by have h : c.val < 8 := c.isLt; have := r.isLt; omega⟩ k) := fun c r k => by
    rw [hX c, Layout.block_apply]
    refine congrArg x (funext fun a => Fin.ext ?_)
    match a with
    | ⟨0, _⟩ => show c.val * 512 + r.val = 512 * c.val + r.val; omega
    | ⟨1, _⟩ => rfl
  have ht : (Cert.KernelIdeal.Gen.k0_pay58 (F := Ideal) (AM m) : EReal) = refTop (refY x w) ix0 :=
    eq_of_forall_ge_iff fun z => (top_le m x w hX' hW z).trans (refTop_le x w z).symm
  funext i
  rw [Layout.block_apply]
  refine (congrArg (OUT m c) (eq_ix2 (n0 := 4096) (n1 := 1024) i)).trans ((OUT_apply m x w hX' hW c (i 0) (i 1)).trans ?_)
  rw [quant_eq, ht]
  refine (refOut_apply x w (i 0) _).symm.trans (congrArg (refOut x w) (funext fun a => Fin.ext ?_))
  match a with
  | ⟨0, _⟩ => rfl
  | ⟨1, _⟩ => show 1024 * c.val + (i 1).val = c.val * 1024 + (i 1).val; omega

end Cert.Qdq
-- ==== Proof.lean ====
/-
The certificate: the frames of the two programs and of the reference, and the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Reference
public import Idealize.ShloMosaic.Adequacy
public import Idealize.ShloMosaic.Init

@[expose] public section

noncomputable section

namespace Cert.Proof

open Idealize.ShloMosaic Idealize.SL.Sem

/-- What the frame says of the idealization's text, at bits: the kernel's own text reads the same. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.Qdq.run_main (F := Bits) m ρ)

/-- The kernel ends on every schedule, its arguments unchanged and every counter zero. -/
theorem frame_kernel : Cert.quiescent_Kernel := fun m ρ _ => by
  rw [Cert.Qdq.defs_same]
  exact frame_bits m ρ

/-- So does its idealization. -/
theorem frame_kernelIdeal : Cert.quiescent_KernelIdeal := fun m ρ _ =>
  (θ_run Cert.KernelIdeal.defs _ _).mono (fun _ h => ⟨fun c => (h.1 c).2, h.2⟩) (Cert.Qdq.run_main (F := Ideal) m ρ)

/-- So does the reference's idealization. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends holding its columns of the reference's result. -/
theorem algebraic : Cert.algebraic_KernelIdeal_ReferenceIdeal := fun m g m' g' _ hargs =>
  ⟨Cert.Qdq.refOut (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono
      (fun _ h c => ⟨(h.1 c).1.trans (Cert.Qdq.value_eq m _ _ (fun c => (hargs c).1) (fun c => (hargs c).2) c), (h.1 c).2⟩)
      (Cert.Qdq.run_main (F := Ideal) m g),
    (θ_run Cert.ReferenceIdeal.defs _ _).mono
      (fun _ h => ⟨(h 0).1.trans (by unfold Cert.Qdq.refOut Cert.Qdq.refScale Cert.Qdq.refLit Cert.Qdq.refTop Cert.Qdq.refY; rfl), (h 0).2⟩)
      (Cert.ReferenceIdeal.Value.run (F := Ideal) m' g')⟩

/-- The five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
